-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_Reference (m : (ℓ : Loc Cert.Reference.nD Cert.Reference.τ Cert.Reference.sig) → Buf (Elt Bits) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_Reference [hReference : Cert.Reference.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1)
      ∧ r.2.mem ((c.tc : Thread Cert.Reference.nD Cert.Reference.τ).loc Cert.Reference.main_arg2) = m ((c.tc : Thread Cert.Reference.nD Cert.Reference.τ).loc Cert.Reference.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def preserves_Reference_ReferenceIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v21)) (v1 : (c : Dev Cert.KernelIdeal.nD) → Buf (Elt Ideal) ((c.tc : Thread Cert.KernelIdeal.nD Cert.KernelIdeal.τ).loc Cert.KernelIdeal.main_v18_0)) (v2 : (c : Dev Cert.KernelIdeal.nD) → Buf (Elt Ideal) ((c.tc : Thread Cert.KernelIdeal.nD Cert.KernelIdeal.τ).loc Cert.KernelIdeal.main_v28)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21) = v0 c
          ∧ r.2.mem ((c.tc : Thread Cert.KernelIdeal.nD Cert.KernelIdeal.τ).loc Cert.KernelIdeal.main_v18_0) = v1 c
          ∧ r.2.mem ((c.tc : Thread Cert.KernelIdeal.nD Cert.KernelIdeal.τ).loc Cert.KernelIdeal.main_v28) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v121) = v0 c
          ∧ r.2.mem ((c.tc : Thread Cert.ReferenceIdeal.nD Cert.ReferenceIdeal.τ).loc Cert.ReferenceIdeal.main_values_16) = v1 c
          ∧ r.2.mem ((c.tc : Thread Cert.ReferenceIdeal.nD Cert.ReferenceIdeal.τ).loc Cert.ReferenceIdeal.main_v122) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReference : Cert.Reference.Facts) (hReferenceIdeal : Cert.ReferenceIdeal.Facts),
    quiescent_Kernel (hKernel := hKernel)
    ∧ quiescent_KernelIdeal (hKernelIdeal := hKernelIdeal)
    ∧ quiescent_Reference (hReference := hReference)
    ∧ quiescent_ReferenceIdeal (hReferenceIdeal := hReferenceIdeal)
    ∧ preserves_Kernel_KernelIdeal
    ∧ preserves_Reference_ReferenceIdeal
    ∧ algebraic_KernelIdeal_ReferenceIdeal (hKernelIdeal := hKernelIdeal) (hReferenceIdeal := hReferenceIdeal)
-- ==== Kernel.lean ====
abbrev S8x8732x4 : Shape := ⟨3, ![8, 8732, 4]⟩
abbrev S8x8732x21 : Shape := ⟨3, ![8, 8732, 21]⟩
abbrev S8732x4 : Shape := ⟨2, ![8732, 4]⟩
abbrev S8x21x8732 : Shape := ⟨3, ![8, 21, 8732]⟩
abbrev S_ : Shape := ⟨0, ![]⟩
abbrev S8x21x8832 : Shape := ⟨3, ![8, 21, 8832]⟩
abbrev S8x4x8732 : Shape := ⟨3, ![8, 4, 8732]⟩
abbrev S8x4x8832 : Shape := ⟨3, ![8, 4, 8832]⟩
abbrev S4x8732 : Shape := ⟨2, ![4, 8732]⟩
abbrev S4x8832 : Shape := ⟨2, ![4, 8832]⟩
abbrev S8x20x8832 : Shape := ⟨3, ![8, 20, 8832]⟩
abbrev S1x21x8832 : Shape := ⟨3, ![1, 21, 8832]⟩
abbrev S1x4x8832 : Shape := ⟨3, ![1, 4, 8832]⟩
abbrev S1x20x8832 : Shape := ⟨3, ![1, 20, 8832]⟩
abbrev S21x8832 : Shape := ⟨2, ![21, 8832]⟩
abbrev S8832 : Shape := ⟨1, ![8832]⟩
abbrev S1x8832 : Shape := ⟨2, ![1, 8832]⟩
abbrev S20x8832 : Shape := ⟨2, ![20, 8832]⟩
abbrev S160x8832 : Shape := ⟨2, ![160, 8832]⟩
abbrev S160x200 : Shape := ⟨2, ![160, 200]⟩
abbrev S8x8832x4 : Shape := ⟨3, ![8, 8832, 4]⟩
abbrev S8x4000 : Shape := ⟨2, ![8, 4000]⟩
abbrev S8x4000x1 : Shape := ⟨3, ![8, 4000, 1]⟩
abbrev S1 : Shape := ⟨1, ![1]⟩
abbrev S1x1x1 : Shape := ⟨3, ![1, 1, 1]⟩
abbrev S8x4000x4 : Shape := ⟨3, ![8, 4000, 4]⟩
abbrev S8x20x200x4 : Shape := ⟨4, ![8, 20, 200, 4]⟩
abbrev S8x20x4x200 : Shape := ⟨4, ![8, 20, 4, 200]⟩
abbrev S8x20x200 : Shape := ⟨3, ![8, 20, 200]⟩
abbrev S1x20x200x4 : Shape := ⟨4, ![1, 20, 200, 4]⟩
abbrev S1x20x4x200 : Shape := ⟨4, ![1, 20, 4, 200]⟩
abbrev S1x20x200 : Shape := ⟨3, ![1, 20, 200]⟩
abbrev S200x20x200 : Shape := ⟨3, ![200, 20, 200]⟩
abbrev S1x1x200x4 : Shape := ⟨4, ![1, 1, 200, 4]⟩
abbrev S200x4 : Shape := ⟨2, ![200, 4]⟩
abbrev S1x1x4x200 : Shape := ⟨4, ![1, 1, 4, 200]⟩
abbrev S4x200 : Shape := ⟨2, ![4, 200]⟩
abbrev S200x1 : Shape := ⟨2, ![200, 1]⟩
abbrev S1x200 : Shape := ⟨2, ![1, 200]⟩
abbrev S200x200 : Shape := ⟨2, ![200, 200]⟩
abbrev S200x1x200 : Shape := ⟨3, ![200, 1, 200]⟩
abbrev S20x200 : Shape := ⟨2, ![20, 200]⟩
abbrev S20 : Shape := ⟨1, ![20]⟩
abbrev S20x1 : Shape := ⟨2, ![20, 1]⟩
abbrev S20x200x4 : Shape := ⟨3, ![20, 200, 4]⟩
abbrev S20x200x1 : Shape := ⟨3, ![20, 200, 1]⟩
abbrev S8x4096 : Shape := ⟨2, ![8, 4096]⟩
abbrev S8x200 : Shape := ⟨2, ![8, 200]⟩
abbrev S8 : Shape := ⟨1, ![8]⟩
abbrev S8x1 : Shape := ⟨2, ![8, 1]⟩
abbrev S8x200x1 : Shape := ⟨3, ![8, 200, 1]⟩
abbrev S8x200x4 : Shape := ⟨3, ![8, 200, 4]⟩

abbrev nBuf : Space → Nat
  | .hbm => 106
  | .vmem => 23
  | .smem => 0
  | _ => 0

abbrev bufTy : (tb : Table) → Fin (tcTables nBuf tb) → BufTy
  | .hbm, ⟨0, _⟩ => ⟨S8x8732x4, .f32⟩
  | .hbm, ⟨1, _⟩ => ⟨S8x8732x21, .f32⟩
  | .hbm, ⟨2, _⟩ => ⟨S8732x4, .f32⟩
  | .hbm, ⟨3, _⟩ => ⟨S8x21x8732, .f32⟩
  | .hbm, ⟨4, _⟩ => ⟨S_, .i32⟩
  | .hbm, ⟨5, _⟩ => ⟨S_, .f32⟩
  | .hbm, ⟨6, _⟩ => ⟨S8x21x8832, .f32⟩
  | .hbm, ⟨7, _⟩ => ⟨S8x4x8732, .f32⟩
  | .hbm, ⟨8, _⟩ => ⟨S_, .i32⟩
  | .hbm, ⟨9, _⟩ => ⟨S_, .f32⟩
  | .hbm, ⟨10, _⟩ => ⟨S8x4x8832, .f32⟩
  | .hbm, ⟨11, _⟩ => ⟨S4x8732, .f32⟩
  | .hbm, ⟨12, _⟩ => ⟨S_, .i32⟩
  | .hbm, ⟨13, _⟩ => ⟨S_, .f32⟩
  | .hbm, ⟨14, _⟩ => ⟨S4x8832, .f32⟩
  | .hbm, ⟨15, _⟩ => ⟨S8x20x8832, .f32⟩
  | .hbm, ⟨16, _⟩ => ⟨S8x4x8832, .f32⟩
  | .hbm, ⟨17, _⟩ => ⟨S160x8832, .f32⟩
  | .hbm, ⟨18, _⟩ => ⟨S160x200, .f32⟩
  | .hbm, ⟨19, _⟩ => ⟨S160x200, .i32⟩
  | .hbm, ⟨20, _⟩ => ⟨S8x8832x4, .f32⟩
  | .hbm, ⟨21, _⟩ => ⟨S8x4000, .i32⟩
  | .hbm, ⟨22, _⟩ => ⟨S8x4000x1, .i32⟩
  | .hbm, ⟨23, _⟩ => ⟨S_, .i32⟩
  | .hbm, ⟨24, _⟩ => ⟨S8x4000x1, .i32⟩
  | .hbm, ⟨25, _⟩ => ⟨S8x4000x1, .i1⟩
  | .hbm, ⟨26, _⟩ => ⟨S_, .i32⟩
  | .hbm, ⟨27, _⟩ => ⟨S8x4000x1, .i32⟩
  | .hbm, ⟨28, _⟩ => ⟨S8x4000x1, .i32⟩
  | .hbm, ⟨29, _⟩ => ⟨S8x4000x1, .i32⟩
  | .hbm, ⟨30, _⟩ => ⟨S1, .i32⟩
  | .hbm, ⟨31, _⟩ => ⟨S_, .i32⟩
  | .hbm, ⟨32, _⟩ => ⟨S8x4000x1, .i32⟩
  | .hbm, ⟨33, _⟩ => ⟨S8x4000x1, .i1⟩
  | .hbm, ⟨34, _⟩ => ⟨S1x1x1, .i32⟩
  | .hbm, ⟨35, _⟩ => ⟨S8x4000x1, .i32⟩
  | .hbm, ⟨36, _⟩ => ⟨S8x4000x1, .i1⟩
  | .hbm, ⟨37, _⟩ => ⟨S8x4000x1, .i1⟩
  | .hbm, ⟨38, _⟩ => ⟨S_, .i1⟩
  | .hbm, ⟨39, _⟩ => ⟨S8x4000, .i1⟩
  | .hbm, ⟨40, _⟩ => ⟨S8x4000x4, .f32⟩
  | .hbm, ⟨41, _⟩ => ⟨S8x4000x4, .i1⟩
  | .hbm, ⟨42, _⟩ => ⟨S_, .f32⟩
  | .hbm, ⟨43, _⟩ => ⟨S8x4000x4, .f32⟩
  | .hbm, ⟨44, _⟩ => ⟨S8x4000x4, .f32⟩
  | .hbm, ⟨45, _⟩ => ⟨S8x20x200x4, .f32⟩
  | .hbm, ⟨46, _⟩ => ⟨S8x20x4x200, .f32⟩
  | .hbm, ⟨47, _⟩ => ⟨S8x20x200, .f32⟩
  | .hbm, ⟨48, _⟩ => ⟨S8x20x200, .f32⟩
  | .hbm, ⟨49, _⟩ => ⟨S8x20x200x4, .f32⟩
  | .hbm, ⟨50, _⟩ => ⟨S8x4000, .f32⟩
  | .hbm, ⟨51, _⟩ => ⟨S_, .f32⟩
  | .hbm, ⟨52, _⟩ => ⟨S_, .f32⟩
  | .hbm, ⟨53, _⟩ => ⟨S8x4096, .f32⟩
  | .hbm, ⟨54, _⟩ => ⟨S8x200, .f32⟩
  | .hbm, ⟨55, _⟩ => ⟨S8x200, .i32⟩
  | .hbm, ⟨56, _⟩ => ⟨S8x4000x4, .f32⟩
  | .hbm, ⟨57, _⟩ => ⟨S8x200x1, .i32⟩
  | .hbm, ⟨58, _⟩ => ⟨S_, .i32⟩
  | .hbm, ⟨59, _⟩ => ⟨S8x200x1, .i32⟩
  | .hbm, ⟨60, _⟩ => ⟨S8x200x1, .i1⟩
  | .hbm, ⟨61, _⟩ => ⟨S_, .i32⟩
  | .hbm, ⟨62, _⟩ => ⟨S8x200x1, .i32⟩
  | .hbm, ⟨63, _⟩ => ⟨S8x200x1, .i32⟩
  | .hbm, ⟨64, _⟩ => ⟨S8x200x1, .i32⟩
  | .hbm, ⟨65, _⟩ => ⟨S1, .i32⟩
  | .hbm, ⟨66, _⟩ => ⟨S_, .i32⟩
  | .hbm, ⟨67, _⟩ => ⟨S8x200x1, .i32⟩
  | .hbm, ⟨68, _⟩ => ⟨S8x200x1, .i1⟩
  | .hbm, ⟨69, _⟩ => ⟨S1x1x1, .i32⟩
  | .hbm, ⟨70, _⟩ => ⟨S8x200x1, .i32⟩
  | .hbm, ⟨71, _⟩ => ⟨S8x200x1, .i1⟩
  | .hbm, ⟨72, _⟩ => ⟨S8x200x1, .i1⟩
  | .hbm, ⟨73, _⟩ => ⟨S_, .i1⟩
  | .hbm, ⟨74, _⟩ => ⟨S8x200, .i1⟩
  | .hbm, ⟨75, _⟩ => ⟨S8x200x4, .f32⟩
  | .hbm, ⟨76, _⟩ => ⟨S8x200x4, .i1⟩
  | .hbm, ⟨77, _⟩ => ⟨S_, .f32⟩
  | .hbm, ⟨78, _⟩ => ⟨S8x200x4, .f32⟩
  | .hbm, ⟨79, _⟩ => ⟨S8x200x4, .f32⟩
  | .hbm, ⟨80, _⟩ => ⟨S_, .i32⟩
  | .hbm, ⟨81, _⟩ => ⟨S_, .i32⟩
  | .hbm, ⟨82, _⟩ => ⟨S8x200, .i32⟩
  | .hbm, ⟨83, _⟩ => ⟨S8x200, .i32⟩
  | .hbm, ⟨84, _⟩ => ⟨S8x200, .i32⟩
  | .hbm, ⟨85, _⟩ => ⟨S_, .i32⟩
  | .hbm, ⟨86, _⟩ => ⟨S8x200, .i32⟩
  | .hbm, ⟨87, _⟩ => ⟨S8x200, .i1⟩
  | .hbm, ⟨88, _⟩ => ⟨S8x200, .i32⟩
  | .hbm, ⟨89, _⟩ => ⟨S8x200, .i32⟩
  | .hbm, ⟨90, _⟩ => ⟨S_, .i32⟩
  | .hbm, ⟨91, _⟩ => ⟨S8x200, .i32⟩
  | .hbm, ⟨92, _⟩ => ⟨S8x200, .i1⟩
  | .hbm, ⟨93, _⟩ => ⟨S8x200, .i1⟩
  | .hbm, ⟨94, _⟩ => ⟨S_, .i32⟩
  | .hbm, ⟨95, _⟩ => ⟨S8x200, .i32⟩
  | .hbm, ⟨96, _⟩ => ⟨S8x200, .i32⟩
  | .hbm, ⟨97, _⟩ => ⟨S8x200, .i32⟩
  | .hbm, ⟨98, _⟩ => ⟨S_, .i32⟩
  | .hbm, ⟨99, _⟩ => ⟨S8x200, .i32⟩
  | .hbm, ⟨100, _⟩ => ⟨S8x200, .i32⟩
  | .hbm, ⟨101, _⟩ => ⟨S_, .f32⟩
  | .hbm, ⟨102, _⟩ => ⟨S8x200, .f32⟩
  | .hbm, ⟨103, _⟩ => ⟨S8x200, .i1⟩
  | .hbm, ⟨104, _⟩ => ⟨S8x200, .i32⟩
  | .hbm, ⟨105, _⟩ => ⟨S8x200, .i32⟩
  | .local _ .vmem, ⟨0, _⟩ => ⟨S1x21x8832, .f32⟩
  | .local _ .vmem, ⟨1, _⟩ => ⟨S1x21x8832, .f32⟩
  | .local _ .vmem, ⟨2, _⟩ => ⟨S1x4x8832, .f32⟩
  | .local _ .vmem, ⟨3, _⟩ => ⟨S1x4x8832, .f32⟩
  | .local _ .vmem, ⟨4, _⟩ => ⟨S4x8832, .f32⟩
  | .local _ .vmem, ⟨5, _⟩ => ⟨S1x20x8832, .f32⟩
  | .local _ .vmem, ⟨6, _⟩ => ⟨S1x20x8832, .f32⟩
  | .local _ .vmem, ⟨7, _⟩ => ⟨S1x4x8832, .f32⟩
  | .local _ .vmem, ⟨8, _⟩ => ⟨S1x4x8832, .f32⟩
  | .local _ .vmem, ⟨9, _⟩ => ⟨S1x20x200x4, .f32⟩
  | .local _ .vmem, ⟨10, _⟩ => ⟨S1x20x200x4, .f32⟩
  | .local _ .vmem, ⟨11, _⟩ => ⟨S1x20x4x200, .f32⟩
  | .local _ .vmem, ⟨12, _⟩ => ⟨S1x20x4x200, .f32⟩
  | .local _ .vmem, ⟨13, _⟩ => ⟨S1x20x200, .f32⟩
  | .local _ .vmem, ⟨14, _⟩ => ⟨S1x20x200, .f32⟩
  | .local _ .vmem, ⟨15, _⟩ => ⟨S1x20x200, .f32⟩
  | .local _ .vmem, ⟨16, _⟩ => ⟨S1x20x200, .f32⟩
  | .local _ .vmem, ⟨17, _⟩ => ⟨S1x20x200x4, .f32⟩
  | .local _ .vmem, ⟨18, _⟩ => ⟨S1x20x200x4, .f32⟩
  | .local _ .vmem, ⟨19, _⟩ => ⟨S200x20x200, .f32⟩
  | .local _ .vmem, ⟨20, _⟩ => ⟨S8x4096, .f32⟩
  | .local _ .vmem, ⟨21, _⟩ => ⟨S8x200, .f32⟩
  | .local _ .vmem, ⟨22, _⟩ => ⟨S8x200, .i32⟩
  | _, _ => ⟨S8x8732x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_call0_v0 : Ref sig .tc := ⟨.hbm, 5, rfl⟩
abbrev main_v1 : Ref sig .tc := ⟨.hbm, 6, rfl⟩
abbrev main_v2 : Ref sig .tc := ⟨.hbm, 7, rfl⟩
abbrev main_c_0 : Ref sig .tc := ⟨.hbm, 8, rfl⟩
abbrev main_call1_v0 : Ref sig .tc := ⟨.hbm, 9, rfl⟩
abbrev main_v3 : Ref sig .tc := ⟨.hbm, 10, rfl⟩
abbrev main_v4 : Ref sig .tc := ⟨.hbm, 11, rfl⟩
abbrev main_c_1 : Ref sig .tc := ⟨.hbm, 12, rfl⟩
abbrev main_call2_v0 : Ref sig .tc := ⟨.hbm, 13, rfl⟩
abbrev main_v5 : Ref sig .tc := ⟨.hbm, 14, rfl⟩
abbrev main_v6_0 : Ref sig .tc := ⟨.hbm, 15, rfl⟩
abbrev main_v6_1 : Ref sig .tc := ⟨.hbm, 16, rfl⟩
abbrev main_v7 : Ref sig .tc := ⟨.hbm, 17, rfl⟩
abbrev main_values : Ref sig .tc := ⟨.hbm, 18, rfl⟩
abbrev main_indices : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_call3_c : Ref sig .tc := ⟨.hbm, 23, rfl⟩
abbrev main_call3_v0 : Ref sig .tc := ⟨.hbm, 24, rfl⟩
abbrev main_call3_v1 : Ref sig .tc := ⟨.hbm, 25, rfl⟩
abbrev main_call3_c_0 : Ref sig .tc := ⟨.hbm, 26, rfl⟩
abbrev main_call3_v2 : Ref sig .tc := ⟨.hbm, 27, rfl⟩
abbrev main_call3_v3 : Ref sig .tc := ⟨.hbm, 28, rfl⟩
abbrev main_call3_v4 : Ref sig .tc := ⟨.hbm, 29, rfl⟩
abbrev main_call3_c_1 : Ref sig .tc := ⟨.hbm, 30, rfl⟩
abbrev main_call3_c_2 : Ref sig .tc := ⟨.hbm, 31, rfl⟩
abbrev main_call3_v5 : Ref sig .tc := ⟨.hbm, 32, rfl⟩
abbrev main_call3_v6 : Ref sig .tc := ⟨.hbm, 33, rfl⟩
abbrev main_call3_v7 : Ref sig .tc := ⟨.hbm, 34, rfl⟩
abbrev main_call3_v8 : Ref sig .tc := ⟨.hbm, 35, rfl⟩
abbrev main_call3_v9 : Ref sig .tc := ⟨.hbm, 36, rfl⟩
abbrev main_call3_v10 : Ref sig .tc := ⟨.hbm, 37, rfl⟩
abbrev main_call3_c_3 : Ref sig .tc := ⟨.hbm, 38, rfl⟩
abbrev main_call3_v11 : Ref sig .tc := ⟨.hbm, 39, rfl⟩
abbrev main_call3_v12 : Ref sig .tc := ⟨.hbm, 40, rfl⟩
abbrev main_call3_v13 : Ref sig .tc := ⟨.hbm, 41, rfl⟩
abbrev main_call3_cst : Ref sig .tc := ⟨.hbm, 42, rfl⟩
abbrev main_call3_v14 : Ref sig .tc := ⟨.hbm, 43, rfl⟩
abbrev main_v11 : Ref sig .tc := ⟨.hbm, 44, rfl⟩
abbrev main_v12 : Ref sig .tc := ⟨.hbm, 45, rfl⟩
abbrev main_v13 : Ref sig .tc := ⟨.hbm, 46, rfl⟩
abbrev main_v14 : Ref sig .tc := ⟨.hbm, 47, rfl⟩
abbrev main_v15_0 : Ref sig .tc := ⟨.hbm, 48, rfl⟩
abbrev main_v15_1 : Ref sig .tc := ⟨.hbm, 49, rfl⟩
abbrev main_v16 : Ref sig .tc := ⟨.hbm, 50, rfl⟩
abbrev main_cst : Ref sig .tc := ⟨.hbm, 51, rfl⟩
abbrev main_call4_v0 : Ref sig .tc := ⟨.hbm, 52, rfl⟩
abbrev main_v17 : Ref sig .tc := ⟨.hbm, 53, rfl⟩
abbrev main_v18_0 : Ref sig .tc := ⟨.hbm, 54, rfl⟩
abbrev main_v18_1 : Ref sig .tc := ⟨.hbm, 55, rfl⟩
abbrev main_v19 : Ref sig .tc := ⟨.hbm, 56, rfl⟩
abbrev main_v20 : Ref sig .tc := ⟨.hbm, 57, rfl⟩
abbrev main_call5_c : Ref sig .tc := ⟨.hbm, 58, rfl⟩
abbrev main_call5_v0 : Ref sig .tc := ⟨.hbm, 59, rfl⟩
abbrev main_call5_v1 : Ref sig .tc := ⟨.hbm, 60, rfl⟩
abbrev main_call5_c_0 : Ref sig .tc := ⟨.hbm, 61, rfl⟩
abbrev main_call5_v2 : Ref sig .tc := ⟨.hbm, 62, rfl⟩
abbrev main_call5_v3 : Ref sig .tc := ⟨.hbm, 63, rfl⟩
abbrev main_call5_v4 : Ref sig .tc := ⟨.hbm, 64, rfl⟩
abbrev main_call5_c_1 : Ref sig .tc := ⟨.hbm, 65, rfl⟩
abbrev main_call5_c_2 : Ref sig .tc := ⟨.hbm, 66, rfl⟩
abbrev main_call5_v5 : Ref sig .tc := ⟨.hbm, 67, rfl⟩
abbrev main_call5_v6 : Ref sig .tc := ⟨.hbm, 68, rfl⟩
abbrev main_call5_v7 : Ref sig .tc := ⟨.hbm, 69, rfl⟩
abbrev main_call5_v8 : Ref sig .tc := ⟨.hbm, 70, rfl⟩
abbrev main_call5_v9 : Ref sig .tc := ⟨.hbm, 71, rfl⟩
abbrev main_call5_v10 : Ref sig .tc := ⟨.hbm, 72, rfl⟩
abbrev main_call5_c_3 : Ref sig .tc := ⟨.hbm, 73, rfl⟩
abbrev main_call5_v11 : Ref sig .tc := ⟨.hbm, 74, rfl⟩
abbrev main_call5_v12 : Ref sig .tc := ⟨.hbm, 75, rfl⟩
abbrev main_call5_v13 : Ref sig .tc := ⟨.hbm, 76, rfl⟩
abbrev main_call5_cst : Ref sig .tc := ⟨.hbm, 77, rfl⟩
abbrev main_call5_v14 : Ref sig .tc := ⟨.hbm, 78, rfl⟩
abbrev main_v21 : Ref sig .tc := ⟨.hbm, 79, rfl⟩
abbrev main_c_2 : Ref sig .tc := ⟨.hbm, 80, rfl⟩
abbrev main_call6_v0 : Ref sig .tc := ⟨.hbm, 81, rfl⟩
abbrev main_call6_v1 : Ref sig .tc := ⟨.hbm, 82, rfl⟩
abbrev main_call6_v2 : Ref sig .tc := ⟨.hbm, 83, rfl⟩
abbrev main_call6_v3 : Ref sig .tc := ⟨.hbm, 84, rfl⟩
abbrev main_call6_v4 : Ref sig .tc := ⟨.hbm, 85, rfl⟩
abbrev main_call6_v5 : Ref sig .tc := ⟨.hbm, 86, rfl⟩
abbrev main_call6_v6 : Ref sig .tc := ⟨.hbm, 87, rfl⟩
abbrev main_call6_v7 : Ref sig .tc := ⟨.hbm, 88, rfl⟩
abbrev main_call6_v8 : Ref sig .tc := ⟨.hbm, 89, rfl⟩
abbrev main_call6_c : Ref sig .tc := ⟨.hbm, 90, rfl⟩
abbrev main_call6_v9 : Ref sig .tc := ⟨.hbm, 91, rfl⟩
abbrev main_call6_v10 : Ref sig .tc := ⟨.hbm, 92, rfl⟩
abbrev main_call6_v11 : Ref sig .tc := ⟨.hbm, 93, rfl⟩
abbrev main_call6_c_0 : Ref sig .tc := ⟨.hbm, 94, rfl⟩
abbrev main_call6_v12 : Ref sig .tc := ⟨.hbm, 95, rfl⟩
abbrev main_call6_v13 : Ref sig .tc := ⟨.hbm, 96, rfl⟩
abbrev main_v22 : Ref sig .tc := ⟨.hbm, 97, rfl⟩
abbrev main_c_3 : Ref sig .tc := ⟨.hbm, 98, rfl⟩
abbrev main_v23 : Ref sig .tc := ⟨.hbm, 99, rfl⟩
abbrev main_v24 : Ref sig .tc := ⟨.hbm, 100, rfl⟩
abbrev main_cst_4 : Ref sig .tc := ⟨.hbm, 101, rfl⟩
abbrev main_v25 : Ref sig .tc := ⟨.hbm, 102, rfl⟩
abbrev main_v26 : Ref sig .tc := ⟨.hbm, 103, rfl⟩
abbrev main_v27 : Ref sig .tc := ⟨.hbm, 104, rfl⟩
abbrev main_v28 : Ref sig .tc := ⟨.hbm, 105, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg2_1 : Ref sig .tc := ⟨.vmem, 14, rfl⟩
abbrev cc1_stg3_0 : Ref sig .tc := ⟨.vmem, 15, rfl⟩
abbrev cc1_stg3_1 : Ref sig .tc := ⟨.vmem, 16, rfl⟩
abbrev cc1_stg4_0 : Ref sig .tc := ⟨.vmem, 17, rfl⟩
abbrev cc1_stg4_1 : Ref sig .tc := ⟨.vmem, 18, rfl⟩
abbrev cc1_scratch0 : Ref sig .tc := ⟨.vmem, 19, rfl⟩
abbrev cc2_stg0_0 : Ref sig .tc := ⟨.vmem, 20, rfl⟩
abbrev cc2_stg1_0 : Ref sig .tc := ⟨.vmem, 21, rfl⟩
abbrev cc2_stg2_0 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem2_1 : DmaSem sig := 14
abbrev cc1_sem3_0 : DmaSem sig := 15
abbrev cc1_sem3_1 : DmaSem sig := 16
abbrev cc1_sem4_0 : DmaSem sig := 17
abbrev cc1_sem4_1 : DmaSem sig := 18
abbrev cc2_sem0_0 : DmaSem sig := 19
abbrev cc2_sem1_0 : DmaSem sig := 20
abbrev cc2_sem2_0 : DmaSem sig := 21

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x21x8832 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x4x8832 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4x8832 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x20x8832 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x4x8832 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![8], ![false]⟩

@[reducible] def k1_t1_loop : Scf.Loop 32 :=
  let c0_i32 : BitVec 32 := 0#32
  let c200_i32 : BitVec 32 := 200#32
  let v942 : BitVec 32 := Scalar.addi c0_i32 c200_i32
  let c1_i32 : BitVec 32 := 1#32
  ⟨c0_i32, v942, c1_i32⟩
def k1_off1 (k1_t1 : Fin k1_t1_loop.trips) : Fin 3 → Nat :=
  let c0_i32 : BitVec 32 := 0#32
  let c1_i32 : BitVec 32 := 1#32
  let arg7 : BitVec 32 := Scf.iv c0_i32 c1_i32 k1_t1
  let v966 : Index := Scalar.indexCast arg7
  let c0_279 : Index := 0#32
  let c0_280 : Index := 0#32
  ![v966.toNat, 0, 0]
def cc1_transform_0 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc1_transform_1 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_4 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage1_0 : Fin 2 → Memref sig .tc .vmem S1x20x200x4 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x20x4x200 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x20x200 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1x20x200 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S1x20x200x4 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := .none

@[reducible] def k2_t1_loop : Scf.Loop 32 :=
  let c0_i32_1 : BitVec 32 := 0#32
  let c200_i32 : BitVec 32 := 200#32
  let v6 : BitVec 32 := Scalar.addi c0_i32_1 c200_i32
  let c1_i32 : BitVec 32 := 1#32
  ⟨c0_i32_1, v6, c1_i32⟩
abbrev stage2_0 : Fin 1 → Memref sig .tc .vmem S8x4096 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))

abbrev stage2_1 : Fin 1 → Memref sig .tc .vmem S8x200 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))

abbrev stage2_2 : Fin 1 → Memref sig .tc .vmem S8x200 .i32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
-- ==== Reference.lean ====
abbrev S8x8732x4 : Shape := ⟨3, ![8, 8732, 4]⟩
abbrev S8x8732x21 : Shape := ⟨3, ![8, 8732, 21]⟩
abbrev S8732x4 : Shape := ⟨2, ![8732, 4]⟩
abbrev S_ : Shape := ⟨0, ![]⟩
abbrev S8x8732 : Shape := ⟨2, ![8, 8732]⟩
abbrev S8x8732x1 : Shape := ⟨3, ![8, 8732, 1]⟩
abbrev S8x8732x2 : Shape := ⟨3, ![8, 8732, 2]⟩
abbrev S8732x2 : Shape := ⟨2, ![8732, 2]⟩
abbrev S1x8732x2 : Shape := ⟨3, ![1, 8732, 2]⟩
abbrev S8x8732x20 : Shape := ⟨3, ![8, 8732, 20]⟩
abbrev S8x20x8732 : Shape := ⟨3, ![8, 20, 8732]⟩
abbrev S8x20x200 : Shape := ⟨3, ![8, 20, 200]⟩
abbrev S8x1x8732x4 : Shape := ⟨4, ![8, 1, 8732, 4]⟩
abbrev S8x20x200x1 : Shape := ⟨4, ![8, 20, 200, 1]⟩
abbrev S1 : Shape := ⟨1, ![1]⟩
abbrev S1x1x1x1 : Shape := ⟨4, ![1, 1, 1, 1]⟩
abbrev S8x20x200x4 : Shape := ⟨4, ![8, 20, 200, 4]⟩
abbrev S8x20x200x2 : Shape := ⟨4, ![8, 20, 200, 2]⟩
abbrev S8x20x200x1x2 : Shape := ⟨5, ![8, 20, 200, 1, 2]⟩
abbrev S8x20x1x200x2 : Shape := ⟨5, ![8, 20, 1, 200, 2]⟩
abbrev S8x20x200x200x2 : Shape := ⟨5, ![8, 20, 200, 200, 2]⟩
abbrev S8x20x200x200x1 : Shape := ⟨5, ![8, 20, 200, 200, 1]⟩
abbrev S8x20x200x200 : Shape := ⟨4, ![8, 20, 200, 200]⟩
abbrev S8x20x1x200 : Shape := ⟨4, ![8, 20, 1, 200]⟩
abbrev S1x1x200 : Shape := ⟨3, ![1, 1, 200]⟩
abbrev S8x20x1 : Shape := ⟨3, ![8, 20, 1]⟩
abbrev S20 : Shape := ⟨1, ![20]⟩
abbrev S1x20x1 : Shape := ⟨3, ![1, 20, 1]⟩
abbrev S8x4000 : Shape := ⟨2, ![8, 4000]⟩
abbrev S8x4000x4 : Shape := ⟨3, ![8, 4000, 4]⟩
abbrev S8x200 : Shape := ⟨2, ![8, 200]⟩
abbrev S8x200x1 : Shape := ⟨3, ![8, 200, 1]⟩
abbrev S1x1x1 : Shape := ⟨3, ![1, 1, 1]⟩
abbrev S8x200x4 : Shape := ⟨3, ![8, 200, 4]⟩

abbrev nBuf : Space → Nat
  | .hbm => 257
  | .vmem => 0
  | .smem => 0
  | _ => 0

abbrev hbmTy0_0 (i : Nat) : BufTy := match i % 128 with
  | 0 => ⟨S8x8732x4, .f32⟩
  | 1 => ⟨S8x8732x21, .f32⟩
  | 2 => ⟨S8732x4, .f32⟩
  | 3 => ⟨S_, .f32⟩
  | 4 => ⟨S8x8732, .f32⟩
  | 5 => ⟨S_, .f32⟩
  | 6 => ⟨S8x8732, .f32⟩
  | 7 => ⟨S8x8732, .f32⟩
  | 8 => ⟨S8x8732x1, .f32⟩
  | 9 => ⟨S8x8732x21, .f32⟩
  | 10 => ⟨S8x8732x21, .f32⟩
  | 11 => ⟨S8x8732x21, .f32⟩
  | 12 => ⟨S_, .f32⟩
  | 13 => ⟨S8x8732, .f32⟩
  | 14 => ⟨S8x8732x1, .f32⟩
  | 15 => ⟨S8x8732x21, .f32⟩
  | 16 => ⟨S8x8732x21, .f32⟩
  | 17 => ⟨S8x8732x2, .f32⟩
  | 18 => ⟨S8732x2, .f32⟩
  | 19 => ⟨S1x8732x2, .f32⟩
  | 20 => ⟨S8x8732x2, .f32⟩
  | 21 => ⟨S8x8732x2, .f32⟩
  | 22 => ⟨S_, .f32⟩
  | 23 => ⟨S8x8732x2, .f32⟩
  | 24 => ⟨S8x8732x2, .f32⟩
  | 25 => ⟨S8732x2, .f32⟩
  | 26 => ⟨S1x8732x2, .f32⟩
  | 27 => ⟨S8x8732x2, .f32⟩
  | 28 => ⟨S8x8732x2, .f32⟩
  | 29 => ⟨S8x8732x2, .f32⟩
  | 30 => ⟨S_, .f32⟩
  | 31 => ⟨S8x8732x2, .f32⟩
  | 32 => ⟨S8x8732x2, .f32⟩
  | 33 => ⟨S8x8732x2, .f32⟩
  | 34 => ⟨S8732x2, .f32⟩
  | 35 => ⟨S1x8732x2, .f32⟩
  | 36 => ⟨S8x8732x2, .f32⟩
  | 37 => ⟨S8x8732x2, .f32⟩
  | 38 => ⟨S_, .f32⟩
  | 39 => ⟨S8x8732x2, .f32⟩
  | 40 => ⟨S8x8732x2, .f32⟩
  | 41 => ⟨S8x8732x2, .f32⟩
  | 42 => ⟨S_, .f32⟩
  | 43 => ⟨S8x8732x2, .f32⟩
  | 44 => ⟨S8x8732x2, .f32⟩
  | 45 => ⟨S8x8732x2, .f32⟩
  | 46 => ⟨S8x8732x4, .f32⟩
  | 47 => ⟨S8x8732x20, .f32⟩
  | 48 => ⟨S8x20x8732, .f32⟩
  | 49 => ⟨S8x20x200, .f32⟩
  | 50 => ⟨S8x20x200, .i32⟩
  | 51 => ⟨S8x1x8732x4, .f32⟩
  | 52 => ⟨S8x20x200x1, .i32⟩
  | 53 => ⟨S_, .i32⟩
  | 54 => ⟨S8x20x200x1, .i32⟩
  | 55 => ⟨S8x20x200x1, .i1⟩
  | 56 => ⟨S_, .i32⟩
  | 57 => ⟨S8x20x200x1, .i32⟩
  | 58 => ⟨S8x20x200x1, .i32⟩
  | 59 => ⟨S8x20x200x1, .i32⟩
  | 60 => ⟨S8x8732x4, .f32⟩
  | 61 => ⟨S1, .i32⟩
  | 62 => ⟨S_, .i32⟩
  | 63 => ⟨S8x20x200x1, .i32⟩
  | 64 => ⟨S8x20x200x1, .i1⟩
  | 65 => ⟨S1x1x1x1, .i32⟩
  | 66 => ⟨S8x20x200x1, .i32⟩
  | 67 => ⟨S8x20x200x1, .i1⟩
  | 68 => ⟨S8x20x200x1, .i1⟩
  | 69 => ⟨S_, .i1⟩
  | 70 => ⟨S8x20x200, .i1⟩
  | 71 => ⟨S8x20x200x4, .f32⟩
  | 72 => ⟨S8x20x200x4, .i1⟩
  | 73 => ⟨S_, .f32⟩
  | 74 => ⟨S8x20x200x4, .f32⟩
  | 75 => ⟨S8x20x200x4, .f32⟩
  | 76 => ⟨S8x20x200x2, .f32⟩
  | 77 => ⟨S8x20x200x1x2, .f32⟩
  | 78 => ⟨S8x20x200x2, .f32⟩
  | 79 => ⟨S8x20x1x200x2, .f32⟩
  | 80 => ⟨S8x20x200x200x2, .f32⟩
  | 81 => ⟨S8x20x200x200x2, .f32⟩
  | 82 => ⟨S8x20x200x200x2, .f32⟩
  | 83 => ⟨S8x20x200x2, .f32⟩
  | 84 => ⟨S8x20x200x1x2, .f32⟩
  | 85 => ⟨S8x20x200x2, .f32⟩
  | 86 => ⟨S8x20x1x200x2, .f32⟩
  | 87 => ⟨S8x20x200x200x2, .f32⟩
  | 88 => ⟨S8x20x200x200x2, .f32⟩
  | 89 => ⟨S8x20x200x200x2, .f32⟩
  | 90 => ⟨S8x20x200x200x2, .f32⟩
  | 91 => ⟨S_, .f32⟩
  | 92 => ⟨S8x20x200x200x2, .f32⟩
  | 93 => ⟨S8x20x200x200x2, .f32⟩
  | 94 => ⟨S8x20x200x200x1, .f32⟩
  | 95 => ⟨S8x20x200x200, .f32⟩
  | 96 => ⟨S8x20x200x200x1, .f32⟩
  | 97 => ⟨S8x20x200x200, .f32⟩
  | 98 => ⟨S8x20x200x200, .f32⟩
  | 99 => ⟨S8x20x200x1, .f32⟩
  | 100 => ⟨S8x20x200, .f32⟩
  | 101 => ⟨S8x20x200x1, .f32⟩
  | 102 => ⟨S8x20x200, .f32⟩
  | 103 => ⟨S8x20x200, .f32⟩
  | 104 => ⟨S8x20x200x1, .f32⟩
  | 105 => ⟨S8x20x200, .f32⟩
  | 106 => ⟨S8x20x200x1, .f32⟩
  | 107 => ⟨S8x20x200, .f32⟩
  | 108 => ⟨S8x20x200, .f32⟩
  | 109 => ⟨S8x20x200, .f32⟩
  | 110 => ⟨S8x20x200x1, .f32⟩
  | 111 => ⟨S8x20x200, .f32⟩
  | 112 => ⟨S8x20x200x1, .f32⟩
  | 113 => ⟨S8x20x200, .f32⟩
  | 114 => ⟨S8x20x200, .f32⟩
  | 115 => ⟨S8x20x200x1, .f32⟩
  | 116 => ⟨S8x20x200, .f32⟩
  | 117 => ⟨S8x20x200x1, .f32⟩
  | 118 => ⟨S8x20x200, .f32⟩
  | 119 => ⟨S8x20x200, .f32⟩
  | 120 => ⟨S8x20x200, .f32⟩
  | 121 => ⟨S8x20x200x1, .f32⟩
  | 122 => ⟨S8x20x1x200, .f32⟩
  | 123 => ⟨S8x20x200x200, .f32⟩
  | 124 => ⟨S8x20x200x200, .f32⟩
  | 125 => ⟨S8x20x200x200, .f32⟩
  | 126 => ⟨S8x20x200x200, .f32⟩
  | 127 => ⟨S_, .f32⟩
  | _ => ⟨S8x8732x4, .f32⟩

abbrev hbmTy0_1 (i : Nat) : BufTy := match i % 128 with
  | 0 => ⟨S8x20x200x200, .f32⟩
  | 1 => ⟨S8x20x200x200, .f32⟩
  | 2 => ⟨S8x20x200x200, .f32⟩
  | 3 => ⟨S1x1x200, .i32⟩
  | 4 => ⟨S_, .i1⟩
  | 5 => ⟨S8x20x200, .i1⟩
  | 6 => ⟨S_, .i32⟩
  | 7 => ⟨S_, .i32⟩
  | 8 => ⟨S8x20x200x200, .f32⟩
  | 9 => ⟨S1x1x200, .i32⟩
  | 10 => ⟨S_, .i32⟩
  | 11 => ⟨S_, .i32⟩
  | 12 => ⟨S8x20x200, .i1⟩
  | 13 => ⟨S_, .i32⟩
  | 14 => ⟨S_, .i1⟩
  | 15 => ⟨S_, .i32⟩
  | 16 => ⟨S_, .i32⟩
  | 17 => ⟨S_, .i32⟩
  | 18 => ⟨S_, .i1⟩
  | 19 => ⟨S_, .i32⟩
  | 20 => ⟨S_, .i32⟩
  | 21 => ⟨S_, .i32⟩
  | 22 => ⟨S_, .i32⟩
  | 23 => ⟨S_, .i32⟩
  | 24 => ⟨S_, .i32⟩
  | 25 => ⟨S_, .i32⟩
  | 26 => ⟨S8x20x1x200, .f32⟩
  | 27 => ⟨S8x20x200, .f32⟩
  | 28 => ⟨S_, .f32⟩
  | 29 => ⟨S8x20x200, .f32⟩
  | 30 => ⟨S8x20x200, .i1⟩
  | 31 => ⟨S8x20x200, .i1⟩
  | 32 => ⟨S_, .i32⟩
  | 33 => ⟨S1x1x200, .i32⟩
  | 34 => ⟨S1x1x200, .i1⟩
  | 35 => ⟨S8x20x200, .i1⟩
  | 36 => ⟨S8x20x200, .i1⟩
  | 37 => ⟨S_, .i32⟩
  | 38 => ⟨S_, .i1⟩
  | 39 => ⟨S_, .i32⟩
  | 40 => ⟨S_, .i32⟩
  | 41 => ⟨S_, .i32⟩
  | 42 => ⟨S_, .i32⟩
  | 43 => ⟨S_, .i32⟩
  | 44 => ⟨S_, .i32⟩
  | 45 => ⟨S8x20x1, .i1⟩
  | 46 => ⟨S8x20x200, .i1⟩
  | 47 => ⟨S8x20x200, .i1⟩
  | 48 => ⟨S_, .i32⟩
  | 49 => ⟨S_, .i32⟩
  | 50 => ⟨S8x20x200, .i1⟩
  | 51 => ⟨S_, .f32⟩
  | 52 => ⟨S8x20x200, .f32⟩
  | 53 => ⟨S8x20x200, .i1⟩
  | 54 => ⟨S8x20x200, .i1⟩
  | 55 => ⟨S_, .f32⟩
  | 56 => ⟨S_, .f32⟩
  | 57 => ⟨S8x20x200, .f32⟩
  | 58 => ⟨S8x20x200, .f32⟩
  | 59 => ⟨S_, .f32⟩
  | 60 => ⟨S_, .f32⟩
  | 61 => ⟨S8x20x200, .f32⟩
  | 62 => ⟨S8x20x200, .f32⟩
  | 63 => ⟨S8x20x200, .f32⟩
  | 64 => ⟨S8x20x200x1, .f32⟩
  | 65 => ⟨S8x20x200x1, .f32⟩
  | 66 => ⟨S8x20x200x4, .f32⟩
  | 67 => ⟨S8x20x200x4, .f32⟩
  | 68 => ⟨S20, .i32⟩
  | 69 => ⟨S_, .i32⟩
  | 70 => ⟨S20, .i32⟩
  | 71 => ⟨S20, .i32⟩
  | 72 => ⟨S1x20x1, .i32⟩
  | 73 => ⟨S_, .f32⟩
  | 74 => ⟨S8x20x200, .f32⟩
  | 75 => ⟨S8x20x200, .i1⟩
  | 76 => ⟨S8x20x200, .i32⟩
  | 77 => ⟨S8x20x200, .i32⟩
  | 78 => ⟨S8x20x200, .i32⟩
  | 79 => ⟨S8x4000, .f32⟩
  | 80 => ⟨S8x4000x4, .f32⟩
  | 81 => ⟨S8x4000, .i32⟩
  | 82 => ⟨S8x200, .f32⟩
  | 83 => ⟨S8x200, .i32⟩
  | 84 => ⟨S8x200x1, .i32⟩
  | 85 => ⟨S_, .i32⟩
  | 86 => ⟨S8x200x1, .i32⟩
  | 87 => ⟨S8x200x1, .i1⟩
  | 88 => ⟨S_, .i32⟩
  | 89 => ⟨S8x200x1, .i32⟩
  | 90 => ⟨S8x200x1, .i32⟩
  | 91 => ⟨S8x200x1, .i32⟩
  | 92 => ⟨S1, .i32⟩
  | 93 => ⟨S_, .i32⟩
  | 94 => ⟨S8x200x1, .i32⟩
  | 95 => ⟨S8x200x1, .i1⟩
  | 96 => ⟨S1x1x1, .i32⟩
  | 97 => ⟨S8x200x1, .i32⟩
  | 98 => ⟨S8x200x1, .i1⟩
  | 99 => ⟨S8x200x1, .i1⟩
  | 100 => ⟨S_, .i1⟩
  | 101 => ⟨S8x200, .i1⟩
  | 102 => ⟨S8x200x4, .f32⟩
  | 103 => ⟨S8x200x4, .i1⟩
  | 104 => ⟨S_, .f32⟩
  | 105 => ⟨S8x200x4, .f32⟩
  | 106 => ⟨S8x200x4, .f32⟩
  | 107 => ⟨S_, .i32⟩
  | 108 => ⟨S8x200, .i32⟩
  | 109 => ⟨S8x200, .i1⟩
  | 110 => ⟨S_, .i32⟩
  | 111 => ⟨S8x200, .i32⟩
  | 112 => ⟨S8x200, .i32⟩
  | 113 => ⟨S8x200, .i32⟩
  | 114 => ⟨S8x200x1, .i32⟩
  | 115 => ⟨S1, .i32⟩
  | 116 => ⟨S_, .i32⟩
  | 117 => ⟨S8x200x1, .i32⟩
  | 118 => ⟨S8x200x1, .i1⟩
  | 119 => ⟨S1x1x1, .i32⟩
  | 120 => ⟨S8x200x1, .i32⟩
  | 121 => ⟨S8x200x1, .i1⟩
  | 122 => ⟨S8x200x1, .i1⟩
  | 123 => ⟨S_, .i1⟩
  | 124 => ⟨S8x200, .i1⟩
  | 125 => ⟨S8x200, .i32⟩
  | 126 => ⟨S_, .i32⟩
  | 127 => ⟨S8x200, .i32⟩
  | _ => ⟨S8x8732x4, .f32⟩

abbrev hbmTy0_2 (i : Nat) : BufTy := match i % 128 with
  | 0 => ⟨S8x200, .i32⟩
  | _ => ⟨S8x8732x4, .f32⟩

abbrev hbmTy (i : Nat) : BufTy := match i / 128 with
  | 0 => hbmTy0_0 i
  | 1 => hbmTy0_1 i
  | 2 => hbmTy0_2 i
  | _ => ⟨S8x8732x4, .f32⟩

abbrev bufTy : (tb : Table) → Fin (tcTables nBuf tb) → BufTy
  | .hbm, ⟨i, _⟩ => hbmTy i
  | _, _ => ⟨S8x8732x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_2 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_cst_3 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_cst_4 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_cst_5 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_values : Ref sig .tc := ⟨.hbm, 49, rfl⟩
abbrev main_indices : Ref sig .tc := ⟨.hbm, 50, rfl⟩
abbrev main_v39 : Ref sig .tc := ⟨.hbm, 51, rfl⟩
abbrev main_v40 : Ref sig .tc := ⟨.hbm, 52, rfl⟩
abbrev main_call0_c : Ref sig .tc := ⟨.hbm, 53, rfl⟩
abbrev main_call0_v0 : Ref sig .tc := ⟨.hbm, 54, rfl⟩
abbrev main_call0_v1 : Ref sig .tc := ⟨.hbm, 55, rfl⟩
abbrev main_call0_c_0 : Ref sig .tc := ⟨.hbm, 56, rfl⟩
abbrev main_call0_v2 : Ref sig .tc := ⟨.hbm, 57, rfl⟩
abbrev main_call0_v3 : Ref sig .tc := ⟨.hbm, 58, rfl⟩
abbrev main_call0_v4 : Ref sig .tc := ⟨.hbm, 59, rfl⟩
abbrev main_call0_v5 : Ref sig .tc := ⟨.hbm, 60, rfl⟩
abbrev main_call0_c_1 : Ref sig .tc := ⟨.hbm, 61, rfl⟩
abbrev main_call0_c_2 : Ref sig .tc := ⟨.hbm, 62, rfl⟩
abbrev main_call0_v6 : Ref sig .tc := ⟨.hbm, 63, rfl⟩
abbrev main_call0_v7 : Ref sig .tc := ⟨.hbm, 64, rfl⟩
abbrev main_call0_v8 : Ref sig .tc := ⟨.hbm, 65, rfl⟩
abbrev main_call0_v9 : Ref sig .tc := ⟨.hbm, 66, rfl⟩
abbrev main_call0_v10 : Ref sig .tc := ⟨.hbm, 67, rfl⟩
abbrev main_call0_v11 : Ref sig .tc := ⟨.hbm, 68, rfl⟩
abbrev main_call0_c_3 : Ref sig .tc := ⟨.hbm, 69, rfl⟩
abbrev main_call0_v12 : Ref sig .tc := ⟨.hbm, 70, rfl⟩
abbrev main_call0_v13 : Ref sig .tc := ⟨.hbm, 71, rfl⟩
abbrev main_call0_v14 : Ref sig .tc := ⟨.hbm, 72, rfl⟩
abbrev main_call0_cst : Ref sig .tc := ⟨.hbm, 73, rfl⟩
abbrev main_call0_v15 : Ref sig .tc := ⟨.hbm, 74, rfl⟩
abbrev main_v41 : Ref sig .tc := ⟨.hbm, 75, rfl⟩
abbrev main_v42 : Ref sig .tc := ⟨.hbm, 76, rfl⟩
abbrev main_v43 : Ref sig .tc := ⟨.hbm, 77, rfl⟩
abbrev main_v44 : Ref sig .tc := ⟨.hbm, 78, rfl⟩
abbrev main_v45 : Ref sig .tc := ⟨.hbm, 79, rfl⟩
abbrev main_v46 : Ref sig .tc := ⟨.hbm, 80, rfl⟩
abbrev main_v47 : Ref sig .tc := ⟨.hbm, 81, rfl⟩
abbrev main_v48 : Ref sig .tc := ⟨.hbm, 82, rfl⟩
abbrev main_v49 : Ref sig .tc := ⟨.hbm, 83, rfl⟩
abbrev main_v50 : Ref sig .tc := ⟨.hbm, 84, rfl⟩
abbrev main_v51 : Ref sig .tc := ⟨.hbm, 85, rfl⟩
abbrev main_v52 : Ref sig .tc := ⟨.hbm, 86, rfl⟩
abbrev main_v53 : Ref sig .tc := ⟨.hbm, 87, rfl⟩
abbrev main_v54 : Ref sig .tc := ⟨.hbm, 88, rfl⟩
abbrev main_v55 : Ref sig .tc := ⟨.hbm, 89, rfl⟩
abbrev main_v56 : Ref sig .tc := ⟨.hbm, 90, rfl⟩
abbrev main_cst_6 : Ref sig .tc := ⟨.hbm, 91, rfl⟩
abbrev main_v57 : Ref sig .tc := ⟨.hbm, 92, rfl⟩
abbrev main_v58 : Ref sig .tc := ⟨.hbm, 93, rfl⟩
abbrev main_v59 : Ref sig .tc := ⟨.hbm, 94, rfl⟩
abbrev main_v60 : Ref sig .tc := ⟨.hbm, 95, rfl⟩
abbrev main_v61 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩
abbrev main_v91 : Ref sig .tc := ⟨.hbm, 126, rfl⟩
abbrev main_cst_7 : Ref sig .tc := ⟨.hbm, 127, rfl⟩
abbrev main_v92 : Ref sig .tc := ⟨.hbm, 128, rfl⟩
abbrev main_v93 : Ref sig .tc := ⟨.hbm, 129, rfl⟩
abbrev main_v94 : Ref sig .tc := ⟨.hbm, 130, rfl⟩
abbrev main_v95 : Ref sig .tc := ⟨.hbm, 131, rfl⟩
abbrev main_c : Ref sig .tc := ⟨.hbm, 132, rfl⟩
abbrev main_v96 : Ref sig .tc := ⟨.hbm, 133, rfl⟩
abbrev main_c_8 : Ref sig .tc := ⟨.hbm, 134, rfl⟩
abbrev main_c_9 : Ref sig .tc := ⟨.hbm, 135, rfl⟩
abbrev main_v97_0 : Ref sig .tc := ⟨.hbm, 136, rfl⟩
abbrev main_v97_1 : Ref sig .tc := ⟨.hbm, 137, rfl⟩
abbrev main_v97_2 : Ref sig .tc := ⟨.hbm, 138, rfl⟩
abbrev main_v97_3 : Ref sig .tc := ⟨.hbm, 139, rfl⟩
abbrev main_v97_4 : Ref sig .tc := ⟨.hbm, 140, rfl⟩
abbrev main_while0c_c_22 : Ref sig .tc := ⟨.hbm, 141, rfl⟩
abbrev main_while0c_v123 : Ref sig .tc := ⟨.hbm, 142, rfl⟩
abbrev main_while0b_c_22 : Ref sig .tc := ⟨.hbm, 143, rfl⟩
abbrev main_while0b_v123 : Ref sig .tc := ⟨.hbm, 144, rfl⟩
abbrev main_while0b_call1_c : Ref sig .tc := ⟨.hbm, 145, rfl⟩
abbrev main_while0b_call1_v0 : Ref sig .tc := ⟨.hbm, 146, rfl⟩
abbrev main_while0b_call1_v1 : Ref sig .tc := ⟨.hbm, 147, rfl⟩
abbrev main_while0b_call1_c_0 : Ref sig .tc := ⟨.hbm, 148, rfl⟩
abbrev main_while0b_call1_v2 : Ref sig .tc := ⟨.hbm, 149, rfl⟩
abbrev main_while0b_call1_v3 : Ref sig .tc := ⟨.hbm, 150, rfl⟩
abbrev main_while0b_call1_c_1 : Ref sig .tc := ⟨.hbm, 151, rfl⟩
abbrev main_while0b_call1_c_2 : Ref sig .tc := ⟨.hbm, 152, rfl⟩
abbrev main_while0b_call1_c_3 : Ref sig .tc := ⟨.hbm, 153, rfl⟩
abbrev main_while0b_call1_v4 : Ref sig .tc := ⟨.hbm, 154, rfl⟩
abbrev main_while0b_v124 : Ref sig .tc := ⟨.hbm, 155, rfl⟩
abbrev main_while0b_cst_23 : Ref sig .tc := ⟨.hbm, 156, rfl⟩
abbrev main_while0b_v125 : Ref sig .tc := ⟨.hbm, 157, rfl⟩
abbrev main_while0b_v126 : Ref sig .tc := ⟨.hbm, 158, rfl⟩
abbrev main_while0b_v127 : Ref sig .tc := ⟨.hbm, 159, rfl⟩
abbrev main_while0b_v128 : Ref sig .tc := ⟨.hbm, 160, rfl⟩
abbrev main_while0b_v129 : Ref sig .tc := ⟨.hbm, 161, rfl⟩
abbrev main_while0b_v130 : Ref sig .tc := ⟨.hbm, 162, rfl⟩
abbrev main_while0b_v131 : Ref sig .tc := ⟨.hbm, 163, rfl⟩
abbrev main_while0b_v132 : Ref sig .tc := ⟨.hbm, 164, rfl⟩
abbrev main_while0b_c_24 : Ref sig .tc := ⟨.hbm, 165, rfl⟩
abbrev main_while0b_v133 : Ref sig .tc := ⟨.hbm, 166, rfl⟩
abbrev main_while0b_v134 : Ref sig .tc := ⟨.hbm, 167, rfl⟩
abbrev main_while0b_c_25 : Ref sig .tc := ⟨.hbm, 168, rfl⟩
abbrev main_while0b_v135 : Ref sig .tc := ⟨.hbm, 169, rfl⟩
abbrev main_while0b_v136 : Ref sig .tc := ⟨.hbm, 170, rfl⟩
abbrev main_while0b_c_26 : Ref sig .tc := ⟨.hbm, 171, rfl⟩
abbrev main_while0b_c_27 : Ref sig .tc := ⟨.hbm, 172, rfl⟩
abbrev main_while0b_v137 : Ref sig .tc := ⟨.hbm, 173, rfl⟩
abbrev main_while0b_call2_v0 : Ref sig .tc := ⟨.hbm, 174, rfl⟩
abbrev main_while0b_v138 : Ref sig .tc := ⟨.hbm, 175, rfl⟩
abbrev main_while0b_c_28 : Ref sig .tc := ⟨.hbm, 176, rfl⟩
abbrev main_while0b_v139 : Ref sig .tc := ⟨.hbm, 177, rfl⟩
abbrev main_v98 : Ref sig .tc := ⟨.hbm, 178, rfl⟩
abbrev main_cst_10 : Ref sig .tc := ⟨.hbm, 179, rfl⟩
abbrev main_v99 : Ref sig .tc := ⟨.hbm, 180, rfl⟩
abbrev main_v100 : Ref sig .tc := ⟨.hbm, 181, rfl⟩
abbrev main_v101 : Ref sig .tc := ⟨.hbm, 182, rfl⟩
abbrev main_cst_11 : Ref sig .tc := ⟨.hbm, 183, rfl⟩
abbrev main_call3_v0 : Ref sig .tc := ⟨.hbm, 184, rfl⟩
abbrev main_call3_v1 : Ref sig .tc := ⟨.hbm, 185, rfl⟩
abbrev main_v102 : Ref sig .tc := ⟨.hbm, 186, rfl⟩
abbrev main_cst_12 : Ref sig .tc := ⟨.hbm, 187, rfl⟩
abbrev main_cst_13 : Ref sig .tc := ⟨.hbm, 188, rfl⟩
abbrev main_call4_v0 : Ref sig .tc := ⟨.hbm, 189, rfl⟩
abbrev main_call4_v1 : Ref sig .tc := ⟨.hbm, 190, rfl⟩
abbrev main_v103 : Ref sig .tc := ⟨.hbm, 191, rfl⟩
abbrev main_v104 : Ref sig .tc := ⟨.hbm, 192, rfl⟩
abbrev main_v105 : Ref sig .tc := ⟨.hbm, 193, rfl⟩
abbrev main_v106 : Ref sig .tc := ⟨.hbm, 194, rfl⟩
abbrev main_v107 : Ref sig .tc := ⟨.hbm, 195, rfl⟩
abbrev main_v108 : Ref sig .tc := ⟨.hbm, 196, rfl⟩
abbrev main_c_14 : Ref sig .tc := ⟨.hbm, 197, rfl⟩
abbrev main_v109 : Ref sig .tc := ⟨.hbm, 198, rfl⟩
abbrev main_v110 : Ref sig .tc := ⟨.hbm, 199, rfl⟩
abbrev main_v111 : Ref sig .tc := ⟨.hbm, 200, rfl⟩
abbrev main_cst_15 : Ref sig .tc := ⟨.hbm, 201, rfl⟩
abbrev main_v112 : Ref sig .tc := ⟨.hbm, 202, rfl⟩
abbrev main_v113 : Ref sig .tc := ⟨.hbm, 203, rfl⟩
abbrev main_v114 : Ref sig .tc := ⟨.hbm, 204, rfl⟩
abbrev main_v115 : Ref sig .tc := ⟨.hbm, 205, rfl⟩
abbrev main_v116 : Ref sig .tc := ⟨.hbm, 206, rfl⟩
abbrev main_v117 : Ref sig .tc := ⟨.hbm, 207, rfl⟩
abbrev main_v118 : Ref sig .tc := ⟨.hbm, 208, rfl⟩
abbrev main_v119 : Ref sig .tc := ⟨.hbm, 209, rfl⟩
abbrev main_values_16 : Ref sig .tc := ⟨.hbm, 210, rfl⟩
abbrev main_indices_17 : Ref sig .tc := ⟨.hbm, 211, rfl⟩
abbrev main_v120 : Ref sig .tc := ⟨.hbm, 212, rfl⟩
abbrev main_call5_c : Ref sig .tc := ⟨.hbm, 213, rfl⟩
abbrev main_call5_v0 : Ref sig .tc := ⟨.hbm, 214, rfl⟩
abbrev main_call5_v1 : Ref sig .tc := ⟨.hbm, 215, rfl⟩
abbrev main_call5_c_0 : Ref sig .tc := ⟨.hbm, 216, rfl⟩
abbrev main_call5_v2 : Ref sig .tc := ⟨.hbm, 217, rfl⟩
abbrev main_call5_v3 : Ref sig .tc := ⟨.hbm, 218, rfl⟩
abbrev main_call5_v4 : Ref sig .tc := ⟨.hbm, 219, rfl⟩
abbrev main_call5_c_1 : Ref sig .tc := ⟨.hbm, 220, rfl⟩
abbrev main_call5_c_2 : Ref sig .tc := ⟨.hbm, 221, rfl⟩
abbrev main_call5_v5 : Ref sig .tc := ⟨.hbm, 222, rfl⟩
abbrev main_call5_v6 : Ref sig .tc := ⟨.hbm, 223, rfl⟩
abbrev main_call5_v7 : Ref sig .tc := ⟨.hbm, 224, rfl⟩
abbrev main_call5_v8 : Ref sig .tc := ⟨.hbm, 225, rfl⟩
abbrev main_call5_v9 : Ref sig .tc := ⟨.hbm, 226, rfl⟩
abbrev main_call5_v10 : Ref sig .tc := ⟨.hbm, 227, rfl⟩
abbrev main_call5_c_3 : Ref sig .tc := ⟨.hbm, 228, rfl⟩
abbrev main_call5_v11 : Ref sig .tc := ⟨.hbm, 229, rfl⟩
abbrev main_call5_v12 : Ref sig .tc := ⟨.hbm, 230, rfl⟩
abbrev main_call5_v13 : Ref sig .tc := ⟨.hbm, 231, rfl⟩
abbrev main_call5_cst : Ref sig .tc := ⟨.hbm, 232, rfl⟩
abbrev main_call5_v14 : Ref sig .tc := ⟨.hbm, 233, rfl⟩
abbrev main_v121 : Ref sig .tc := ⟨.hbm, 234, rfl⟩
abbrev main_call6_c : Ref sig .tc := ⟨.hbm, 235, rfl⟩
abbrev main_call6_v0 : Ref sig .tc := ⟨.hbm, 236, rfl⟩
abbrev main_call6_v1 : Ref sig .tc := ⟨.hbm, 237, rfl⟩
abbrev main_call6_c_0 : Ref sig .tc := ⟨.hbm, 238, rfl⟩
abbrev main_call6_v2 : Ref sig .tc := ⟨.hbm, 239, rfl⟩
abbrev main_call6_v3 : Ref sig .tc := ⟨.hbm, 240, rfl⟩
abbrev main_call6_v4 : Ref sig .tc := ⟨.hbm, 241, rfl⟩
abbrev main_call6_v5 : Ref sig .tc := ⟨.hbm, 242, rfl⟩
abbrev main_call6_c_1 : Ref sig .tc := ⟨.hbm, 243, rfl⟩
abbrev main_call6_c_2 : Ref sig .tc := ⟨.hbm, 244, rfl⟩
abbrev main_call6_v6 : Ref sig .tc := ⟨.hbm, 245, rfl⟩
abbrev main_call6_v7 : Ref sig .tc := ⟨.hbm, 246, rfl⟩
abbrev main_call6_v8 : Ref sig .tc := ⟨.hbm, 247, rfl⟩
abbrev main_call6_v9 : Ref sig .tc := ⟨.hbm, 248, rfl⟩
abbrev main_call6_v10 : Ref sig .tc := ⟨.hbm, 249, rfl⟩
abbrev main_call6_v11 : Ref sig .tc := ⟨.hbm, 250, rfl⟩
abbrev main_call6_c_3 : Ref sig .tc := ⟨.hbm, 251, rfl⟩
abbrev main_call6_v12 : Ref sig .tc := ⟨.hbm, 252, rfl⟩
abbrev main_call6_v13 : Ref sig .tc := ⟨.hbm, 253, rfl⟩
abbrev main_call6_c_4 : Ref sig .tc := ⟨.hbm, 254, rfl⟩
abbrev main_call6_v14 : Ref sig .tc := ⟨.hbm, 255, rfl⟩
abbrev main_v122 : Ref sig .tc := ⟨.hbm, 256, rfl⟩

abbrev nD : Nat := 1
abbrev τ : Topo := Topo.v7x

variable {F : FTy → Type} [FloatOps F]

abbrev main_while0_count : Scf.Loop 32 := ⟨0#32, 200#32, 1#32⟩
-- ==== Proof.RefFrame.lean ====
module

public import proofs.«01_k».proof.Proof.Gen.Reference.Run
public import Idealize.ShloMosaic.Lib.StableHlo.RunRead
public import Idealize.ShloMosaic.Lib.Quiescent

/-! The reference in any floats: it ends without fault and leaves its arguments unchanged. -/

@[expose] public section

noncomputable section

open Idealize.ShloMosaic Idealize.ShloMosaic.StableHlo Idealize.ShloMosaic.TcCoe Idealize.SL.Sem Cert.Reference Cert.Reference.Gen Cert.Reference.Value

namespace Cert.Own

variable {F : FTy → Type} [FloatOps F]
variable (m : (ℓ : Loc Cert.Reference.nD Cert.Reference.τ Cert.Reference.sig) → Buf (Elt F) ℓ) (c : Dev Cert.Reference.nD)

/-- A buffer that the loop doesn't write holds at every trip what it holds at the loop's entry. -/
theorem float_keep (r : Ref Cert.Reference.sig .tc) (hc : r ∉ condOps_W) (h0 : r ∉ while0Ops0_W) (h1 : r ∉ while0Ops0_1_W) (h2 : r ∉ while0Ops0_2_W)
    (h3 : r ∉ while0Ops0_3_W) (h4 : r ∉ while0Ops0_4_W) : ∀ k, atK m k c r = entryContents preI m c r
  | 0 => rfl
  | k + 1 => by
    refine Eq.trans ?_ (float_keep r hc h0 h1 h2 h3 h4 k)
    rw [show atK m (k + 1) c = afterL bodyI (after condOps (atK m k c)) from rfl]
    simp only [afterL_cons, afterL_nil]
    rw [after_of_writes_sub while0Ops0_4 _ while0Ops0_4_writes h4, after_of_writes_sub while0Ops0_3 _ while0Ops0_3_writes h3,
      after_of_writes_sub while0Ops0_2 _ while0Ops0_2_writes h2, after_of_writes_sub while0Ops0_1 _ while0Ops0_1_writes h1,
      after_of_writes_sub while0Ops0 _ while0Ops0_writes h0, after_of_writes_sub condOps _ condOps_writes hc]

/-- A buffer that nothing before the loop writes holds at the loop's entry what it holds at launch. -/
theorem float_entry {r : Ref Cert.Reference.sig .tc} (h0 : r ∉ hostOps0_W) (h1 : r ∉ hostOps0_1_W) (h2 : r ∉ hostOps0_2_W) :
    entryContents preI m c r = launchContents m c r := by
  rw [show entryContents preI m c = afterL preI (launchContents m c) from rfl]
  simp only [afterL_cons, afterL_nil]
  rw [after_of_writes_sub hostOps0_2 _ hostOps0_2_writes h2, after_of_writes_sub hostOps0_1 _ hostOps0_1_writes h1,
    after_of_writes_sub hostOps0 _ hostOps0_writes h0]

set_option maxHeartbeats 4000000 in
set_option maxRecDepth 100000 in
/-- Nothing after the loop writes an argument. -/
theorem float_post (X : Valuation Cert.Reference.τ Cert.Reference.sig (Elt F)) :
    afterL postI X main_arg0 = X main_arg0 ∧ afterL postI X main_arg1 = X main_arg1 ∧ afterL postI X main_arg2 = X main_arg2 := by
  simp only [postI, afterL_cons, afterL_nil]
  refine ⟨?_, ?_, ?_⟩
  · after_reads_simp
  · after_reads_simp
  · after_reads_simp

/-- Every execution of the reference in any floats ends with its arguments unchanged and every counter at zero. -/
theorem reference_float (ρ) : θ_run (defs (F := F)) (onTc (τ := Cert.Reference.τ) (main (F := F))) ⟨m, fun _ => 0, ρ⟩ (fun r => (∀ c : Dev Cert.Reference.nD,
      r.2.mem ((c.tc : Thread Cert.Reference.nD Cert.Reference.τ).loc main_arg0) = m ((c.tc : Thread Cert.Reference.nD Cert.Reference.τ).loc main_arg0)
      ∧ r.2.mem ((c.tc : Thread Cert.Reference.nD Cert.Reference.τ).loc main_arg1) = m ((c.tc : Thread Cert.Reference.nD Cert.Reference.τ).loc main_arg1)
      ∧ r.2.mem ((c.tc : Thread Cert.Reference.nD Cert.Reference.τ).loc main_arg2) = m ((c.tc : Thread Cert.Reference.nD Cert.Reference.τ).loc main_arg2))
      ∧ r.2.sem = fun _ => 0) := by
  have hr : ∀ (c : Dev Cert.Reference.nD) (r : Ref Cert.Reference.sig .tc), r ∉ condOps_W → r ∉ while0Ops0_W → r ∉ while0Ops0_1_W → r ∉ while0Ops0_2_W →
      r ∉ while0Ops0_3_W → r ∉ while0Ops0_4_W → r ∉ hostOps0_W → r ∉ hostOps0_1_W → r ∉ hostOps0_2_W →
      after condOps (atK m 200 c) r = launchContents m c r := fun c r hc h0 h1 h2 h3 h4 g0 g1 g2 =>
    (after_of_writes_sub condOps _ condOps_writes hc).trans ((float_keep m c r hc h0 h1 h2 h3 h4 200).trans (float_entry m c g0 g1 g2))
  refine (θ_run defs _ _).mono (fun r h => ⟨fun c => ⟨?_, ?_, ?_⟩, sem_eq_zero_of_no_sems (by decide) r.2⟩) (run_fold m ρ)
  · exact (h c main_arg0 rfl).trans ((float_post _).1.trans (hr c _ (by decide) (by decide) (by decide) (by decide) (by decide) (by decide) (by decide) (by decide) (by decide)))
  · exact (h c main_arg1 rfl).trans ((float_post _).2.1.trans (hr c _ (by decide) (by decide) (by decide) (by decide) (by decide) (by decide) (by decide) (by decide) (by decide)))
  · exact (h c main_arg2 rfl).trans ((float_post _).2.2.trans (hr c _ (by decide) (by decide) (by decide) (by decide) (by decide) (by decide) (by decide) (by decide) (by decide)))

end Cert.Own
-- ==== Proof.Order.lean ====
module

public import Idealize.ShloMosaic.Lib.SortFacts
public import Idealize.ShloMosaic.Lib.ValueIdx

/-! Sorting a finite family in descending order, equal entries by position: what `top_k` picks. -/

@[expose] public section

noncomputable section

open Idealize.ShloMosaic

namespace Cert.Own

variable {n : Nat}

/-- Entry `i` comes before entry `j`: it is greater, or equal and at a smaller position. -/
def Bef (x : Fin n → EReal) (i j : Fin n) : Prop := x j < x i ∨ (x i = x j ∧ i < j)

open Classical in
/-- How many entries come before entry `i`. -/
def rnk (x : Fin n → EReal) (i : Fin n) : Nat := (Finset.univ.filter fun j => Bef x j i).card

open Classical in
/-- The position of the entry that the descending stable sort puts at place `r`. -/
def ord (x : Fin n → EReal) (r : Fin n) : Fin n := sortedFrom (fun k k' => decide (x k' < x k)) r

theorem Bef.irrefl (x : Fin n → EReal) (i : Fin n) : ¬ Bef x i i := by
  rintro (h | ⟨_, h⟩)
  · exact lt_irrefl _ h
  · exact lt_irrefl _ h

theorem Bef.trans {x : Fin n → EReal} {i j k : Fin n} (h : Bef x i j) (h' : Bef x j k) : Bef x i k := by
  rcases h with h | ⟨h, hl⟩ <;> rcases h' with h' | ⟨h', hl'⟩
  · exact Or.inl (h'.trans h)
  · exact Or.inl (h' ▸ h)
  · exact Or.inl (h ▸ h')
  · exact Or.inr ⟨h.trans h', hl.trans hl'⟩

theorem Bef.total (x : Fin n → EReal) {i j : Fin n} (h : i ≠ j) : Bef x i j ∨ Bef x j i := by
  rcases lt_trichotomy (x i) (x j) with hx | hx | hx
  · exact Or.inr (Or.inl hx)
  · rcases lt_or_gt_of_ne h with hl | hl
    · exact Or.inl (Or.inr ⟨hx, hl⟩)
    · exact Or.inr (Or.inr ⟨hx.symm, hl⟩)
  · exact Or.inl (Or.inl hx)

open Classical in
/-- An entry that comes before another has the smaller rank. -/
theorem rnk_lt {x : Fin n → EReal} {i j : Fin n} (h : Bef x i j) : rnk x i < rnk x j := by
  unfold rnk
  apply Finset.card_lt_card
  refine ⟨fun k hk => ?_, fun hs => ?_⟩
  · simp only [Finset.mem_filter, Finset.mem_univ, true_and] at hk ⊢
    exact hk.trans h
  · have : i ∈ Finset.univ.filter fun k => Bef x k j := by simpa using h
    have := hs this
    simp only [Finset.mem_filter, Finset.mem_univ, true_and] at this
    exact Bef.irrefl x i this

/-- Different entries have different ranks. -/
theorem rnk_inj {x : Fin n → EReal} {i j : Fin n} (h : rnk x i = rnk x j) : i = j := by
  by_contra hne
  rcases Bef.total x hne with hb | hb
  · exact absurd h (rnk_lt hb).ne
  · exact absurd h (rnk_lt hb).ne'

open Classical in
/-- Inserting an earlier position into a list in order leaves the list in order. -/
theorem pairwise_insert (x : Fin n → EReal) (a : Fin n) (l : List (Fin n)) (hl : l.Pairwise (Bef x)) (ha : ∀ b ∈ l, a < b) :
    (insertBefore (fun k k' => decide (x k' < x k)) a l).Pairwise (Bef x) := by
  induction l with
  | nil => exact List.pairwise_singleton _ _
  | cons b l ih =>
    have hb := List.pairwise_cons.mp hl
    unfold insertBefore
    by_cases h : x a < x b
    · simp only [h, decide_true, if_true]
      refine List.pairwise_cons.mpr ⟨fun c hc => ?_, ih hb.2 fun c hc => ha c (List.mem_cons_of_mem _ hc)⟩
      rcases List.mem_cons.mp ((perm_insertBefore _ a l).mem_iff.mp hc) with rfl | hc
      · exact Or.inl h
      · exact hb.1 c hc
    · simp only [h, decide_false, Bool.false_eq_true, if_false]
      have hab : Bef x a b := by
        rcases lt_or_eq_of_le (not_lt.mp h) with h | h
        · exact Or.inl h
        · exact Or.inr ⟨h.symm, ha b (List.mem_cons_self ..)⟩
      refine List.pairwise_cons.mpr ⟨fun c hc => ?_, hl⟩
      rcases List.mem_cons.mp hc with rfl | hc
      · exact hab
      · exact hab.trans (hb.1 c hc)

open Classical in
/-- The stable sort of an increasing list of positions is in order. -/
theorem pairwise_sort (x : Fin n → EReal) (l : List (Fin n)) (hl : l.Pairwise (· < ·)) :
    (stableSort (fun k k' => decide (x k' < x k)) l).Pairwise (Bef x) := by
  induction l with
  | nil => exact List.Pairwise.nil
  | cons a l ih =>
    have h := List.pairwise_cons.mp hl
    unfold stableSort
    exact pairwise_insert x a _ (ih h.2) fun b hb => h.1 b ((perm_stableSort _ l).mem_iff.mp hb)

open Classical in
/-- Sorted places are in order. -/
theorem bef_ord (x : Fin n → EReal) {r r' : Fin n} (h : r < r') : Bef x (ord x r) (ord x r') := by
  have hp := List.pairwise_iff_get.mp (pairwise_sort x (List.finRange n) (List.pairwise_lt_finRange n))
  unfold ord sortedFrom
  exact hp _ _ h

theorem ord_surj (x : Fin n → EReal) : Function.Surjective (ord x) := by
  classical exact sortedFrom_surjective _

open Classical in
/-- The entry sorted to place `r` has rank `r`. -/
theorem rnk_ord (x : Fin n → EReal) (r : Fin n) : rnk x (ord x r) = r.val := by
  unfold rnk
  have : (Finset.univ.filter fun j => Bef x j (ord x r)) = (Finset.univ.filter fun s => s < r).image (ord x) := by
    ext j
    simp only [Finset.mem_filter, Finset.mem_univ, true_and, Finset.mem_image]
    constructor
    · intro h
      obtain ⟨s, rfl⟩ := ord_surj x j
      refine ⟨s, ?_, rfl⟩
      by_contra hs
      rcases lt_or_eq_of_le (not_lt.mp hs) with hs | hs
      · exact Bef.irrefl x _ (h.trans (bef_ord x hs))
      · subst hs; exact Bef.irrefl x _ h
    · rintro ⟨s, hs, rfl⟩
      exact bef_ord x hs
  rw [this, Finset.card_image_of_injective _ (Finite.injective_iff_surjective.mpr (ord_surj x))]
  rw [show (Finset.univ.filter fun s => s < r) = Finset.Iio r by ext; simp, Fin.card_Iio]

/-- The entry of rank `r` is the one sorted to place `r`. -/
theorem ord_eq {x : Fin n → EReal} {r i : Fin n} (h : rnk x i = r.val) : ord x r = i :=
  rnk_inj ((rnk_ord x r).trans h.symm)

open Classical in
/-- Entries added at the end, none above entry `i`, leave the rank of entry `i` as it is. -/
theorem rnk_pad {N : Nat} (hN : n ≤ N) (x : Fin n → EReal) (x' : Fin N → EReal) (hx : ∀ i, x' (Fin.castLE hN i) = x i)
    (i : Fin n) (hp : ∀ j : Fin N, n ≤ j.val → x' j ≤ x i) : rnk x' (Fin.castLE hN i) = rnk x i := by
  unfold rnk
  have : (Finset.univ.filter fun j => Bef x' j (Fin.castLE hN i))
      = (Finset.univ.filter fun j => Bef x j i).map ⟨Fin.castLE hN, Fin.castLE_injective hN⟩ := by
    ext j
    simp only [Finset.mem_filter, Finset.mem_univ, true_and, Finset.mem_map, Function.Embedding.coeFn_mk]
    constructor
    · intro h
      by_cases hj : j.val < n
      · refine ⟨⟨j.val, hj⟩, ?_, rfl⟩
        have hj' : j = Fin.castLE hN ⟨j.val, hj⟩ := rfl
        rw [hj'] at h
        unfold Bef at h ⊢
        rw [hx, hx] at h
        exact h
      · exfalso
        have hle := hp j (not_lt.mp hj)
        rcases h with h | ⟨_, h⟩
        · rw [hx] at h; exact absurd hle (not_le.mpr h)
        · exact hj (lt_trans (Fin.lt_def.mp h) i.isLt)
    · rintro ⟨k, hk, rfl⟩
      unfold Bef at hk ⊢
      rw [hx, hx]
      exact hk
  rw [this, Finset.card_map]

/-- Entries added at the end, none above the entry sorted to place `r`, leave that place as it is. -/
theorem ord_pad {N : Nat} (hN : n ≤ N) (x : Fin n → EReal) (x' : Fin N → EReal) (hx : ∀ i, x' (Fin.castLE hN i) = x i)
    (r : Fin n) (hp : ∀ j : Fin N, n ≤ j.val → x' j ≤ x (ord x r)) : ord x' (Fin.castLE hN r) = Fin.castLE hN (ord x r) :=
  ord_eq (by rw [rnk_pad hN x x' hx _ hp, rnk_ord]; rfl)

/-- Sorted places hold smaller and smaller entries. -/
theorem le_ord (x : Fin n → EReal) {r r' : Fin n} (h : r ≤ r') : x (ord x r') ≤ x (ord x r) := by
  rcases lt_or_eq_of_le h with h | rfl
  · rcases bef_ord x h with h | ⟨h, _⟩
    · exact h.le
    · exact h.ge
  · exact le_refl _

/-- Zeros added at the end: either place `r` and all before it stay as they are, or place `r` holds nothing positive, with the zeros and
    without. -/
theorem ord_pad_zero {N : Nat} (hN : n ≤ N) (x : Fin n → EReal) (x' : Fin N → EReal) (hx : ∀ i, x' (Fin.castLE hN i) = x i)
    (hz : ∀ j : Fin N, n ≤ j.val → x' j = 0) (r : Fin n) :
    (∀ i ≤ r, ord x' (Fin.castLE hN i) = Fin.castLE hN (ord x i)) ∨ (x (ord x r) ≤ 0 ∧ x' (ord x' (Fin.castLE hN r)) ≤ 0) := by
  by_cases h : 0 ≤ x (ord x r)
  · exact Or.inl fun i hi => ord_pad hN x x' hx i fun j hj => (hz j hj).le.trans (h.trans (le_ord x hi))
  · refine Or.inr ⟨(not_le.mp h).le, not_lt.mp fun hpos => ?_⟩
    have hs : (ord x' (Fin.castLE hN r)).val < n := by
      by_contra hc
      rw [hz _ (not_lt.mp hc)] at hpos
      exact lt_irrefl _ hpos
    have e : ord x' (Fin.castLE hN r) = Fin.castLE hN ⟨_, hs⟩ := rfl
    rw [e, hx] at hpos
    have hr := rnk_pad hN x x' hx ⟨_, hs⟩ fun j hj => (hz j hj).le.trans hpos.le
    rw [← e, rnk_ord] at hr
    have := ord_eq (x := x) (r := r) hr.symm
    rw [this] at h
    exact h hpos.le

open Classical in
/-- The family with the entries of the first `k` ranks replaced by the mark `m`. -/
def marked (x : Fin n → EReal) (m : EReal) (k : Nat) (j : Fin n) : EReal := if rnk x j < k then m else x j

theorem marked_zero (x : Fin n → EReal) (m : EReal) : marked x m 0 = x := by
  funext j; simp [marked]

/-- With the mark below every entry, no entry of the marked family exceeds the entry of rank `k`. -/
theorem marked_le (x : Fin n → EReal) (m : EReal) (hm : ∀ j, m < x j) (k : Fin n) (j : Fin n) :
    marked x m k j ≤ x (ord x k) := by
  unfold marked
  split_ifs with h
  · exact (hm _).le
  · by_contra hlt
    have := rnk_lt (x := x) (i := j) (j := ord x k) (Or.inl (not_le.mp hlt))
    rw [rnk_ord] at this
    exact h this

theorem marked_ord (x : Fin n → EReal) (m : EReal) (k : Fin n) : marked x m k (ord x k) = x (ord x k) := by
  simp [marked, rnk_ord]

/-- The entry of rank `k` is the first one of the marked family with its value. -/
theorem marked_first (x : Fin n → EReal) (m : EReal) (hm : ∀ j, m < x j) (k j : Fin n)
    (h : marked x m k j = x (ord x k)) : ord x k ≤ j := by
  unfold marked at h
  split_ifs at h with hr
  · exact absurd h (hm _).ne
  · by_contra hlt
    have := rnk_lt (x := x) (i := j) (j := ord x k) (Or.inr ⟨h, not_le.mp hlt⟩)
    rw [rnk_ord] at this
    exact hr this

open Classical in
/-- Marking the entry of rank `k` too. -/
theorem marked_succ (x : Fin n → EReal) (m : EReal) (k : Fin n) (j : Fin n) :
    marked x m (k.val + 1) j = if j = ord x k then m else marked x m k j := by
  unfold marked
  by_cases hj : j = ord x k
  · subst hj; simp [rnk_ord]
  · have : rnk x j ≠ k.val := fun h => hj (ord_eq h).symm
    rw [if_neg hj]
    by_cases h : rnk x j < k.val
    · rw [if_pos h, if_pos (by omega)]
    · rw [if_neg h, if_neg (by omega)]

open Classical in
/-- The comparison `top_k` sorts by, at the ideal numbers, is `greater than`. -/
theorem gt_eq (a b : Ideal .f32) : (FloatOps.cmpfTotal (F := Ideal) .gt a b == 1#1) = decide ((b : EReal) < a) := by
  change (BitVec.ofBool (decide ((b : EReal) < a)) == 1#1) = _
  by_cases h : (b : EReal) < a <;> simp [h]

end Cert.Own
-- ==== Proof.Spec.lean ====
module

public import proofs.«01_k».proof.Proof.Order
public import Idealize.ShloMosaic.Lib.IdealHost

/-! The mathematics both programs compute, over plain functions of one batch entry's arguments. -/

@[expose] public section

noncomputable section

open Idealize.ShloMosaic

namespace Cert.Own

/-- Class `k + 1`'s softmax probability from a row of 21 scores. -/
def prob (x : Fin 21 → EReal) (k : Fin 20) : EReal :=
  Ideal.div (Ideal.exp (x ⟨1 + k.val, by omega⟩ - Finset.univ.sup x)) (∑ j, Ideal.exp (x j - Finset.univ.sup x))

/-- The corners of the box that the offsets `o` make of the prior `p` (center and size), the centre coordinates first. -/
def box (o p : Fin 4 → EReal) (d : Fin 4) : EReal :=
  let cx := Ideal.div (o 0 * p 2) (Ideal.ofBits .f32 0x41200000#32) + p 0
  let cy := Ideal.div (o 1 * p 3) (Ideal.ofBits .f32 0x41200000#32) + p 1
  let w := Ideal.exp (Ideal.div (o 2) (Ideal.ofBits .f32 0x40A00000#32)) * p 2
  let h := Ideal.exp (Ideal.div (o 3) (Ideal.ofBits .f32 0x40A00000#32)) * p 3
  ![cx - Ideal.div w (Ideal.ofBits .f32 0x40000000#32), cy - Ideal.div h (Ideal.ofBits .f32 0x40000000#32),
    cx + Ideal.div w (Ideal.ofBits .f32 0x40000000#32), cy + Ideal.div h (Ideal.ofBits .f32 0x40000000#32)] d

/-- The area common to two boxes. -/
def inter (a b : Fin 4 → EReal) : EReal :=
  max (min (a 2) (b 2) - max (a 0) (b 0)) (Ideal.ofBits .f32 0x00000000#32)
    * max (min (a 3) (b 3) - max (a 1) (b 1)) (Ideal.ofBits .f32 0x00000000#32)

/-- Intersection over union of two boxes. -/
def iou (a b : Fin 4 → EReal) : EReal :=
  Ideal.div (inter a b)
    (max ((a 2 - a 0) * (a 3 - a 1) + (b 2 - b 0) * (b 3 - b 1) - inter a b) (Ideal.ofBits .f32 0x2EDBE6FF#32))

/-- Step `i` of the suppression: unless candidate `i` is itself suppressed, the candidates `j` with `g i j` become suppressed, and `i` is
    not. -/
def supStep (g : Fin 200 → Fin 200 → Bool) (i : Fin 200) (s : Fin 200 → Bool) (j : Fin 200) : Bool :=
  if s i then s j else (s j || g i j) && decide (j ≠ i)

/-- The suppressed candidates before step `k`. -/
def supAfter (g : Fin 200 → Fin 200 → Bool) : Nat → Fin 200 → Bool
  | 0 => fun _ => false
  | k + 1 => if h : k < 200 then supStep g ⟨k, h⟩ (supAfter g k) else supAfter g k

/-- A truth value as the number 1 or 0. -/
def fl (b : Bool) : EReal := if b then 1 else 0

theorem one_sub_one : (1 : EReal) - 1 = 0 := by
  rw [← EReal.coe_one, ← EReal.coe_sub]; simp

theorem one_sub_fl (b : Bool) : (1 : EReal) - fl b = fl (!b) := by
  cases b <;> simp [fl, one_sub_one]

theorem fl_nonneg (b : Bool) : 0 ≤ fl b := by cases b <;> simp [fl]

/-- The largest of the entries of `s`, all but entry `i` replaced by zero, is entry `i`. -/
theorem sup_pick (s : Fin 200 → Bool) (i : Fin 200) :
    (Finset.univ.sup fun j => fl (s j) * (1 - fl (decide (j ≠ i)))) = fl (s i) := by
  apply le_antisymm
  · refine Finset.sup_le fun j _ => ?_
    rw [one_sub_fl]
    by_cases h : j = i
    · subst h; simp [fl]
    · simp [h, fl]; split <;> simp
  · have := Finset.le_sup (f := fun j => fl (s j) * (1 - fl (decide (j ≠ i)))) (Finset.mem_univ i)
    refine le_trans (le_of_eq ?_) this
    rw [one_sub_fl]; simp [fl]

/-- One step of the suppression on numbers 0 and 1 is the step on truth values. -/
theorem supStep_float (g : Fin 200 → Fin 200 → Bool) (i : Fin 200) (s : Fin 200 → Bool) (j : Fin 200) :
    fl (s i) * fl (s j) + (1 - fl (s i)) * (min (fl (s j) + fl (g i j)) 1 * fl (decide (j ≠ i))) = fl (supStep g i s j) := by
  rw [one_sub_fl]
  unfold supStep
  cases s i
  · cases s j <;> cases g i j <;> by_cases h : j = i <;> simp [fl, h]
    exact le_add_of_nonneg_left zero_le_one
  · cases s j <;> simp [fl]

variable (off : Fin 8732 → Fin 4 → EReal) (cls : Fin 8732 → Fin 21 → EReal) (pb : Fin 8732 → Fin 4 → EReal)

/-- Class `k`'s probability at every prior. -/
def probs (k : Fin 20) (n : Fin 8732) : EReal := prob (cls n) k

/-- The prior that is class `k`'s candidate `r`. -/
def cidx (k : Fin 20) (r : Fin 200) : Fin 8732 := ord (probs cls k) (Fin.castLE (by omega) r)

/-- The probability of class `k`'s candidate `r`. -/
def cval (k : Fin 20) (r : Fin 200) : EReal := probs cls k (cidx cls k r)

/-- The box of class `k`'s candidate `r`. -/
def cbox (k : Fin 20) (r : Fin 200) : Fin 4 → EReal := box (off (cidx cls k r)) (pb (cidx cls k r))

open Classical in
/-- Candidates `i` and `j` overlap by more than the threshold, boxes as given. -/
def overlap (b : Fin 200 → Fin 4 → EReal) (i j : Fin 200) : Bool := decide (Ideal.ofBits .f32 0x3EE66666#32 < iou (b i) (b j))

open Classical in
/-- A candidate is kept: not suppressed at the end, and its probability above the score threshold. -/
def keepBit (b : Fin 200 → Fin 4 → EReal) (v : Fin 200 → EReal) (r : Fin 200) : Bool :=
  !(supAfter (overlap b) 200 r) && decide (Ideal.ofBits .f32 0x3C23D70A#32 < v r)

/-- Class `k`'s candidate `r` is kept. -/
def keep (k : Fin 20) (r : Fin 200) : Bool := keepBit (cbox off cls pb k) (cval cls k) r

/-- The candidate's probability if kept, else zero. -/
def kscore (k : Fin 20) (r : Fin 200) : EReal := if keep off cls pb k r then cval cls k r else 0

/-- The candidate's box, times one if kept and zero if not. -/
def kbox (k : Fin 20) (r : Fin 200) (d : Fin 4) : EReal := cbox off cls pb k r d * fl (keep off cls pb k r)

/-- The class of the flattened candidate `q`. -/
def qc (q : Fin 4000) : Fin 20 := ⟨q.val / 200, by omega⟩
/-- The number within its class of the flattened candidate `q`. -/
def qr (q : Fin 4000) : Fin 200 := ⟨q.val % 200, Nat.mod_lt _ (by omega)⟩

/-- The scores of all classes' candidates in one list. -/
def flat (q : Fin 4000) : EReal := kscore off cls pb (qc q) (qr q)

/-- The flattened candidate that the merge puts at place `r`. -/
def top (r : Fin 200) : Fin 4000 := ord (flat off cls pb) (Fin.castLE (by omega) r)

/-- The boxes returned. -/
def resBox (r : Fin 200) (d : Fin 4) : EReal := kbox off cls pb (qc (top off cls pb r)) (qr (top off cls pb r)) d

/-- The scores returned. -/
def resScore (r : Fin 200) : EReal := flat off cls pb (top off cls pb r)

open Classical in
/-- The labels returned: the class counted from one where the score is positive, else zero. -/
def resLabel (r : Fin 200) : BitVec 32 :=
  if 0 < resScore off cls pb r then BitVec.ofNat 32 ((top off cls pb r).val / 200 + 1) else 0#32

/-- The score threshold is positive. -/
theorem threshold_pos : (0 : EReal) < Ideal.ofBits .f32 0x3C23D70A#32 := by
  have h : Ideal.ofBits .f32 0x3C23D70A#32 = ((10737418 / 1073741824 : ℝ) : EReal) := by
    simp [Ideal.ofBits, Ideal.ieee, -EReal.coe_mul, -EReal.coe_neg]; norm_num
  rw [h, ← EReal.coe_zero]
  exact EReal.coe_lt_coe_iff.mpr (by norm_num)

/-- A candidate without a positive score isn't kept. -/
theorem keepBit_nonpos (b : Fin 200 → Fin 4 → EReal) (v : Fin 200 → EReal) (r : Fin 200) (h : v r ≤ 0) : keepBit b v r = false := by
  have : ¬ Ideal.ofBits .f32 0x3C23D70A#32 < v r := not_lt.mpr (h.trans threshold_pos.le)
  simp [keepBit, this]

/-- Every merged score is nonnegative. -/
theorem flat_nonneg (q : Fin 4000) : 0 ≤ flat off cls pb q := by
  unfold flat kscore
  split
  · rename_i h
    by_contra hn
    rw [keep, keepBit_nonpos _ _ _ (not_le.mp hn).le] at h
    exact absurd h (by decide)
  · exact le_refl _

end Cert.Own
-- ==== Proof.Casts.lean ====
module

public import proofs.«01_k».proof.Proof.Spec
public import Idealize.ShloMosaic.Lib.ValueIdx

/-! Regroupings of axes, as equations between functions of the coordinates. -/

@[expose] public section

noncomputable section

open Idealize.ShloMosaic Idealize.ShloMosaic.ValueIdx

namespace Cert.Own

variable {α : Type}

/-- A regrouping read at an index: the entry in the same row-major place. -/
theorem cast_at {s t : Shape} (x : s.Idx → α) (h : s.ShapeCasts t) (j : t.Idx) (i : s.Idx)
    (e : (s.rowMajor i).val = (t.rowMajor j).val) : shapeCast t x h j = x i :=
  congrArg x (Shape.reshapeEquiv_eq_of_rowMajor _ e)

/-- The row of batch entry `b` and class `k` among all 160. -/
def rowOf (b : Fin 8) (k : Fin 20) : Fin 160 := ⟨b.val * 20 + k.val, by omega⟩
/-- A row's batch entry. -/
def rb (p : Fin 160) : Fin 8 := ⟨p.val / 20, by omega⟩
/-- A row's class. -/
def rk (p : Fin 160) : Fin 20 := ⟨p.val % 20, Nat.mod_lt _ (by omega)⟩

theorem rb_rowOf (b : Fin 8) (k : Fin 20) : rb (rowOf b k) = b := Fin.ext (by simp only [rb, rowOf]; omega)
theorem rk_rowOf (b : Fin 8) (k : Fin 20) : rk (rowOf b k) = k := Fin.ext (by simp only [rk, rowOf]; omega)

/-- The place of class `k`'s candidate `r` in the flattened list. -/
def fq (k : Fin 20) (r : Fin 200) : Fin 4000 := ⟨k.val * 200 + r.val, by omega⟩
theorem qc_fq (k : Fin 20) (r : Fin 200) : qc (fq k r) = k := Fin.ext (by simp only [qc, fq]; omega)
theorem qr_fq (k : Fin 20) (r : Fin 200) : qr (fq k r) = r := Fin.ext (by simp only [qr, fq]; omega)

/-- Dropping the unit axis of the boxes. -/
theorem cast_8_1_8732_4_to_8_8732_4 (x : Shape.Idx ⟨4, ![8, 1, 8732, 4]⟩ → α) (h) :
    shapeCast (s := ⟨4, ![8, 1, 8732, 4]⟩) ⟨3, ![8, 8732, 4]⟩ x h = fun j => x (ix4 (j 0) 0 (j 1) (j 2)) := by
  funext j
  refine cast_at _ h j (ix4 (j 0) 0 (j 1) (j 2)) ?_
  rw [Shape.rowMajor_val_three, Shape.rowMajor_val_four]
  simp [qc, qr, rb, rk, rowOf, fq, ix3, ix4] <;> omega

/-- Dropping a last unit axis. -/
theorem cast_8_20_200_200_1_to_8_20_200_200 (x : Shape.Idx ⟨5, ![8, 20, 200, 200, 1]⟩ → α) (h) :
    shapeCast (s := ⟨5, ![8, 20, 200, 200, 1]⟩) ⟨4, ![8, 20, 200, 200]⟩ x h = fun j => x (ix5 (j 0) (j 1) (j 2) (j 3) 0) := by
  funext j
  refine cast_at _ h j (ix5 (j 0) (j 1) (j 2) (j 3) 0) ?_
  rw [Shape.rowMajor_val_four, Shape.rowMajor_val_five]
  simp [qc, qr, rb, rk, rowOf, fq, ix3, ix4] <;> omega

/-- Dropping a last unit axis. -/
theorem cast_8_20_200_1_to_8_20_200 (x : Shape.Idx ⟨4, ![8, 20, 200, 1]⟩ → α) (h) :
    shapeCast (s := ⟨4, ![8, 20, 200, 1]⟩) ⟨3, ![8, 20, 200]⟩ x h = fun j => x (ix4 (j 0) (j 1) (j 2) 0) := by
  funext j
  refine cast_at _ h j (ix4 (j 0) (j 1) (j 2) 0) ?_
  rw [Shape.rowMajor_val_three, Shape.rowMajor_val_four]
  simp [qc, qr, rb, rk, rowOf, fq, ix3, ix4] <;> omega

/-- Dropping an inner unit axis. -/
theorem cast_8_20_1_200_to_8_20_200 (x : Shape.Idx ⟨4, ![8, 20, 1, 200]⟩ → α) (h) :
    shapeCast (s := ⟨4, ![8, 20, 1, 200]⟩) ⟨3, ![8, 20, 200]⟩ x h = fun j => x (ix4 (j 0) (j 1) 0 (j 2)) := by
  funext j
  refine cast_at _ h j (ix4 (j 0) (j 1) 0 (j 2)) ?_
  rw [Shape.rowMajor_val_three, Shape.rowMajor_val_four]
  simp [qc, qr, rb, rk, rowOf, fq, ix3, ix4] <;> omega

/-- All classes' candidates in one list. -/
theorem cast_8_20_200_to_8_4000 (x : Shape.Idx ⟨3, ![8, 20, 200]⟩ → α) (h) :
    shapeCast (s := ⟨3, ![8, 20, 200]⟩) ⟨2, ![8, 4000]⟩ x h = fun j => x (ix3 (j 0) (qc (j 1)) (qr (j 1))) := by
  funext j
  refine cast_at _ h j (ix3 (j 0) (qc (j 1)) (qr (j 1))) ?_
  rw [Shape.rowMajor_val_two, Shape.rowMajor_val_three]
  simp [qc, qr, rb, rk, rowOf, fq, ix3, ix4] <;> omega

/-- All classes' boxes in one list. -/
theorem cast_8_20_200_4_to_8_4000_4 (x : Shape.Idx ⟨4, ![8, 20, 200, 4]⟩ → α) (h) :
    shapeCast (s := ⟨4, ![8, 20, 200, 4]⟩) ⟨3, ![8, 4000, 4]⟩ x h = fun j => x (ix4 (j 0) (qc (j 1)) (qr (j 1)) (j 2)) := by
  funext j
  refine cast_at _ h j (ix4 (j 0) (qc (j 1)) (qr (j 1)) (j 2)) ?_
  rw [Shape.rowMajor_val_three, Shape.rowMajor_val_four]
  simp [qc, qr, rb, rk, rowOf, fq, ix3, ix4] <;> omega

/-- Adding a last unit axis. -/
theorem cast_8_200_to_8_200_1 (x : Shape.Idx ⟨2, ![8, 200]⟩ → α) (h) :
    shapeCast (s := ⟨2, ![8, 200]⟩) ⟨3, ![8, 200, 1]⟩ x h = fun j => x (ix2 (j 0) (j 1)) := by
  funext j
  refine cast_at _ h j (ix2 (j 0) (j 1)) ?_
  rw [Shape.rowMajor_val_three, Shape.rowMajor_val_two]
  simp [qc, qr, rb, rk, rowOf, fq, ix3, ix4] <;> omega

/-- Batch entries and classes as rows. -/
theorem cast_8_20_8832_to_160_8832 (x : Shape.Idx ⟨3, ![8, 20, 8832]⟩ → α) (h) :
    shapeCast (s := ⟨3, ![8, 20, 8832]⟩) ⟨2, ![160, 8832]⟩ x h = fun j => x (ix3 (rb (j 0)) (rk (j 0)) (j 1)) := by
  funext j
  refine cast_at _ h j (ix3 (rb (j 0)) (rk (j 0)) (j 1)) ?_
  rw [Shape.rowMajor_val_two, Shape.rowMajor_val_three]
  simp [qc, qr, rb, rk, rowOf, fq, ix3, ix4] <;> omega

/-- Rows back to batch entries and classes. -/
theorem cast_160_200_to_8_20_200 (x : Shape.Idx ⟨2, ![160, 200]⟩ → α) (h) :
    shapeCast (s := ⟨2, ![160, 200]⟩) ⟨3, ![8, 20, 200]⟩ x h = fun j => x (ix2 (rowOf (j 0) (j 1)) (j 2)) := by
  funext j
  refine cast_at _ h j (ix2 (rowOf (j 0) (j 1)) (j 2)) ?_
  rw [Shape.rowMajor_val_three, Shape.rowMajor_val_two]
  simp [qc, qr, rb, rk, rowOf, fq, ix3, ix4] <;> omega

/-- Rows back to batch entries, the classes' candidates in one list. -/
theorem cast_160_200_to_8_4000 (x : Shape.Idx ⟨2, ![160, 200]⟩ → α) (h) :
    shapeCast (s := ⟨2, ![160, 200]⟩) ⟨2, ![8, 4000]⟩ x h = fun j => x (ix2 (rowOf (j 0) (qc (j 1))) (qr (j 1))) := by
  funext j
  refine cast_at _ h j (ix2 (rowOf (j 0) (qc (j 1))) (qr (j 1))) ?_
  rw [Shape.rowMajor_val_two, Shape.rowMajor_val_two]
  simp [qc, qr, rb, rk, rowOf, fq, ix3, ix4] <;> omega

/-- The list of boxes by class. -/
theorem cast_8_4000_4_to_8_20_200_4 (x : Shape.Idx ⟨3, ![8, 4000, 4]⟩ → α) (h) :
    shapeCast (s := ⟨3, ![8, 4000, 4]⟩) ⟨4, ![8, 20, 200, 4]⟩ x h = fun j => x (ix3 (j 0) (fq (j 1) (j 2)) (j 3)) := by
  funext j
  refine cast_at _ h j (ix3 (j 0) (fq (j 1) (j 2)) (j 3)) ?_
  rw [Shape.rowMajor_val_four, Shape.rowMajor_val_three]
  simp [qc, qr, rb, rk, rowOf, fq, ix3, ix4] <;> omega

/-- A slice along the last of four axes. -/
theorem slice4_last {A B C D M o : Nat} (x : (⟨4, ![A, B, C, D]⟩ : Shape).Idx → α) (h) (hM : o + M ≤ D) :
    extractStridedSlice (s := ⟨4, ![A, B, C, D]⟩) ⟨4, ![A, B, C, M]⟩ ![0, 0, 0, o] x h
      = fun j => x (ix4 (j 0) (j 1) (j 2) ⟨o + (j 3).val, lt_of_lt_of_le (Nat.add_lt_add_left (j 3).isLt o) hM⟩) := by
  funext j
  refine congrArg x (funext fun a => ?_)
  fin_cases a
  · exact Fin.ext (Nat.zero_add _)
  · exact Fin.ext (Nat.zero_add _)
  · exact Fin.ext (Nat.zero_add _)
  · rfl

/-- A slice along the last of five axes. -/
theorem slice5_last {A B C E D M o : Nat} (x : (⟨5, ![A, B, C, E, D]⟩ : Shape).Idx → α) (h) (hM : o + M ≤ D) :
    extractStridedSlice (s := ⟨5, ![A, B, C, E, D]⟩) ⟨5, ![A, B, C, E, M]⟩ ![0, 0, 0, 0, o] x h
      = fun j => x (ix5 (j 0) (j 1) (j 2) (j 3) ⟨o + (j 4).val, lt_of_lt_of_le (Nat.add_lt_add_left (j 4).isLt o) hM⟩) := by
  funext j
  refine congrArg x (funext fun a => ?_)
  fin_cases a
  · exact Fin.ext (Nat.zero_add _)
  · exact Fin.ext (Nat.zero_add _)
  · exact Fin.ext (Nat.zero_add _)
  · exact Fin.ext (Nat.zero_add _)
  · rfl

/-- A slice along the last of three axes. -/
theorem slice3_last {A B D M o : Nat} (x : (⟨3, ![A, B, D]⟩ : Shape).Idx → α) (h) (hM : o + M ≤ D) :
    extractStridedSlice (s := ⟨3, ![A, B, D]⟩) ⟨3, ![A, B, M]⟩ ![0, 0, o] x h
      = fun j => x (ix3 (j 0) (j 1) ⟨o + (j 2).val, lt_of_lt_of_le (Nat.add_lt_add_left (j 2).isLt o) hM⟩) := by
  funext j
  refine congrArg x (funext fun a => ?_)
  fin_cases a
  · exact Fin.ext (Nat.zero_add _)
  · exact Fin.ext (Nat.zero_add _)
  · rfl

/-- A slice along the last of two axes. -/
theorem slice2_last {A D M o : Nat} (x : (⟨2, ![A, D]⟩ : Shape).Idx → α) (h) (hM : o + M ≤ D) :
    extractStridedSlice (s := ⟨2, ![A, D]⟩) ⟨2, ![A, M]⟩ ![0, o] x h
      = fun j => x (ix2 (j 0) ⟨o + (j 1).val, lt_of_lt_of_le (Nat.add_lt_add_left (j 1).isLt o) hM⟩) := by
  funext j
  refine congrArg x (funext fun a => ?_)
  fin_cases a
  · exact Fin.ext (Nat.zero_add _)
  · rfl

end Cert.Own
-- ==== Proof.Out.lean ====
module

public import proofs.«01_k».proof.Proof.Casts

/-! The three results as arrays of the three arguments. -/

@[expose] public section

noncomputable section

open Idealize.ShloMosaic Idealize.ShloMosaic.ValueIdx

namespace Cert.Own

variable (A0 : (⟨3, ![8, 8732, 4]⟩ : Shape).Idx → EReal) (A1 : (⟨3, ![8, 8732, 21]⟩ : Shape).Idx → EReal) (A2 : (⟨2, ![8732, 4]⟩ : Shape).Idx → EReal)

/-- Batch entry `b`'s offsets. -/
def offOf (b : Fin 8) : Fin 8732 → Fin 4 → EReal := fun n d => A0 (ix3 b n d)
/-- Batch entry `b`'s scores. -/
def clsOf (b : Fin 8) : Fin 8732 → Fin 21 → EReal := fun n k => A1 (ix3 b n k)
/-- The priors. -/
def pbOf : Fin 8732 → Fin 4 → EReal := fun n d => A2 (ix2 n d)

/-- The boxes returned. -/
def outBox : (⟨3, ![8, 200, 4]⟩ : Shape).Idx → EReal := fun j => resBox (offOf A0 (j 0)) (clsOf A1 (j 0)) (pbOf A2) (j 1) (j 2)
/-- The scores returned. -/
def outScore : (⟨2, ![8, 200]⟩ : Shape).Idx → EReal := fun j => resScore (offOf A0 (j 0)) (clsOf A1 (j 0)) (pbOf A2) (j 1)
/-- The labels returned. -/
def outLabel : (⟨2, ![8, 200]⟩ : Shape).Idx → BitVec 32 := fun j => resLabel (offOf A0 (j 0)) (clsOf A1 (j 0)) (pbOf A2) (j 1)

end Cert.Own
-- ==== Proof.Take.lean ====
module

public import proofs.«01_k».proof.Proof.Order
public import Idealize.ShloMosaic.Lib.IdealHost

/-! Reading rows at given positions, sorting along the last axis and regrouping axes, each as an equation between
functions of the coordinates. -/

@[expose] public section

noncomputable section

open Idealize.ShloMosaic

namespace Cert.Own

/-- A small word, read signed, is its number. -/
theorem toInt_small {n : Nat} (hn : n < 2 ^ 31) : (BitVec.ofNat 32 n).toInt = (n : Int) := by
  have h2 : n % 2 ^ 32 = n := Nat.mod_eq_of_lt (by omega)
  rw [BitVec.toInt_eq_toNat_cond, BitVec.toNat_ofNat, h2]
  split <;> omega

/-- A small word is not negative. -/
theorem slt_zero {n : Nat} (hn : n < 2 ^ 31) : IntOp.cmpi .slt (BitVec.ofNat 32 n) 0#32 = 0#1 := by
  have : (BitVec.ofNat 32 n).slt 0#32 = false := by
    rw [BitVec.slt_eq_decide, decide_eq_false_iff_not, toInt_small hn]
    simp
  simp [IntOp.cmpi, this]

/-- A small word is at least zero. -/
theorem sge_zero {n : Nat} (hn : n < 2 ^ 31) : IntOp.cmpi .sge (BitVec.ofNat 32 n) 0#32 = 1#1 := by
  have : (0#32).sle (BitVec.ofNat 32 n) = true := by
    rw [BitVec.sle_eq_decide, decide_eq_true_iff, toInt_small hn]
    simp
  simp [IntOp.cmpi, this]

/-- Small words compare as their numbers. -/
theorem sle_ofNat {n k : Nat} (hn : n ≤ k) (hk : k < 2 ^ 31) : IntOp.cmpi .sle (BitVec.ofNat 32 n) (BitVec.ofNat 32 k) = 1#1 := by
  have : (BitVec.ofNat 32 n).sle (BitVec.ofNat 32 k) = true := by
    rw [BitVec.sle_eq_decide, decide_eq_true_iff, toInt_small (by omega), toInt_small hk]
    omega
  simp [IntOp.cmpi, this]

theorem toNat_ofNat_small {n : Nat} (hn : n < 2 ^ 31) : (BitVec.ofNat 32 n).toInt.toNat = n := by
  rw [toInt_small hn]; rfl

/-- The conjunction of ones is one. -/
theorem reduce_ones {s t u : Shape} {a : Fin s.rank} (x : s.Idx → BitVec 1) (v : u.Idx → BitVec 1) (h' : s.ReducesTo [a] t)
    (hu : 0 < u.numel) (hx : ∀ i, x i = 1#1) (hv : ∀ i, v i = 1#1) : Host.reduce IntOp.andi x v h' hu = fun _ => 1#1 := by
  funext j
  classical
  rw [Host.reduce_eq_fold, hv]
  generalize (Finset.univ.filter fun i => h'.drop i = j) = S
  induction S using Finset.cons_induction with
  | empty => rfl
  | cons a S ha ih => rw [Finset.fold_cons, ih, hx]; rfl

section Gather
variable {α : Type} {B N C R K : Nat}

theorem apply3 (x : Fin B → Fin N → Fin C → α) (p : (⟨3, ![B, N, C]⟩ : Shape).Idx) (a b c) (ha : p 0 = a) (hb : p 1 = b) (hc : p 2 = c) :
    (fun j : (⟨3, ![B, N, C]⟩ : Shape).Idx => x (j 0) (j 1) (j 2)) p = x a b c := by
  subst ha hb hc; rfl

theorem apply2 (x : Fin B → Fin N → α) (p : (⟨2, ![B, N]⟩ : Shape).Idx) (a b) (ha : p 0 = a) (hb : p 1 = b) :
    (fun j : (⟨2, ![B, N]⟩ : Shape).Idx => x (j 0) (j 1)) p = x a b := by
  subst ha hb; rfl

/-- Rows of a batched table at given positions. -/
theorem gather3 (wf) (x : Fin B → Fin N → Fin C → α) (n : Fin B → Fin R → Fin N) (hN : N < 2 ^ 31) :
    Host.gather (⟨[2], [1], [0], [0], [1], 2, ![1, 1, C], wf⟩ : GatherDims ⟨3, ![B, N, C]⟩ ⟨3, ![B, R, 1]⟩ ⟨3, ![B, R, C]⟩)
        (fun j => x (j 0) (j 1) (j 2)) (fun j => BitVec.ofNat 32 (n (j 0) (j 1)).val)
      = fun j => x (j 0) (n (j 0) (j 1)) (j 2) := by
  funext j
  have h1 : (n (j 0) (j 1)).val < N := (n (j 0) (j 1)).isLt
  refine apply3 x _ _ _ _ (Fin.ext (Nat.zero_add _)) (Fin.ext ?_) (Fin.ext (Nat.zero_add _))
  change min (BitVec.ofNat 32 (n (j 0) (j 1)).val).toInt.toNat (N - 1) + 0 + 0 = _
  rw [toNat_ofNat_small (by omega)]; omega

/-- The same with two axes of positions. -/
theorem gather4 (wf) (x : Fin B → Fin N → Fin C → α) (n : Fin B → Fin K → Fin R → Fin N) (hN : N < 2 ^ 31) :
    Host.gather (⟨[3], [1], [0], [0], [1], 3, ![1, 1, C], wf⟩ : GatherDims ⟨3, ![B, N, C]⟩ ⟨4, ![B, K, R, 1]⟩ ⟨4, ![B, K, R, C]⟩)
        (fun j => x (j 0) (j 1) (j 2)) (fun j => BitVec.ofNat 32 (n (j 0) (j 1) (j 2)).val)
      = fun j => x (j 0) (n (j 0) (j 1) (j 2)) (j 3) := by
  funext j
  have h1 : (n (j 0) (j 1) (j 2)).val < N := (n (j 0) (j 1) (j 2)).isLt
  refine apply3 x _ _ _ _ (Fin.ext (Nat.zero_add _)) (Fin.ext ?_) (Fin.ext (Nat.zero_add _))
  change min (BitVec.ofNat 32 (n (j 0) (j 1) (j 2)).val).toInt.toNat (N - 1) + 0 + 0 = _
  rw [toNat_ofNat_small (by omega)]; omega

/-- Entries of a batched list at given positions. -/
theorem gather2 (wf) (x : Fin B → Fin N → α) (n : Fin B → Fin R → Fin N) (hN : N < 2 ^ 31) :
    Host.gather (⟨[], [1], [0], [0], [1], 2, ![1, 1], wf⟩ : GatherDims ⟨2, ![B, N]⟩ ⟨3, ![B, R, 1]⟩ ⟨2, ![B, R]⟩)
        (fun j => x (j 0) (j 1)) (fun j => BitVec.ofNat 32 (n (j 0) (j 1)).val)
      = fun j => x (j 0) (n (j 0) (j 1)) := by
  funext j
  have h1 : (n (j 0) (j 1)).val < N := (n (j 0) (j 1)).isLt
  refine apply2 x _ _ _ (Fin.ext (Nat.zero_add _)) (Fin.ext ?_)
  change min (BitVec.ofNat 32 (n (j 0) (j 1)).val).toInt.toNat (N - 1) + 0 + 0 = _
  rw [toNat_ofNat_small (by omega)]; omega

end Gather

section Sorting
variable {A B N R : Nat}

theorem gt_fun (f : Fin N → EReal) :
    (fun k k' : Fin N => (FloatOps.cmpfTotal (F := Ideal) (φ := .f32) .gt (f k) (f k') == 1#1)) = fun k k' => decide (f k' < f k) := by
  funext k k'; exact gt_eq _ _

/-- The largest entries along the last of three axes. -/
theorem topK3_values (f : Fin A → Fin B → Fin N → EReal) (hR : R ≤ N)
    (h : Shape.Slices ⟨3, ![A, B, N]⟩ (fun _ => 0) ⟨3, ![A, B, R]⟩) :
    (Host.topK (s := ⟨3, ![A, B, N]⟩) ⟨3, ![A, B, R]⟩ 2 (FloatOps.cmpfTotal (F := Ideal) (φ := .f32) .gt)
        (fun j => f (j 0) (j 1) (j 2)) h).1
      = fun j => f (j 0) (j 1) (ord (f (j 0) (j 1)) (Fin.castLE hR (j 2))) := by
  funext j
  have e0 : (⟨0 + (j 0).val, by have := (j 0).isLt; simpa using this⟩ : Fin A) = j 0 := Fin.ext (Nat.zero_add _)
  have e1 : (⟨0 + (j 1).val, by have := (j 1).isLt; simpa using this⟩ : Fin B) = j 1 := Fin.ext (Nat.zero_add _)
  have e2 : (⟨0 + (j 2).val, by have := (j 2).isLt; simp at this; omega⟩ : Fin N) = Fin.castLE hR (j 2) := Fin.ext (Nat.zero_add _)
  change f ⟨0 + (j 0).val, _⟩ ⟨0 + (j 1).val, _⟩ (sortedFrom (fun k k' => (FloatOps.cmpfTotal (F := Ideal) (φ := .f32) .gt
    (f ⟨0 + (j 0).val, _⟩ ⟨0 + (j 1).val, _⟩ k) (f ⟨0 + (j 0).val, _⟩ ⟨0 + (j 1).val, _⟩ k') == 1#1)) ⟨0 + (j 2).val, _⟩) = _
  rw [gt_fun, e0, e1, e2]
  rfl

/-- Their positions. -/
theorem topK3_indices (f : Fin A → Fin B → Fin N → EReal) (hR : R ≤ N)
    (h : Shape.Slices ⟨3, ![A, B, N]⟩ (fun _ => 0) ⟨3, ![A, B, R]⟩) :
    (Host.topK (s := ⟨3, ![A, B, N]⟩) ⟨3, ![A, B, R]⟩ 2 (FloatOps.cmpfTotal (F := Ideal) (φ := .f32) .gt)
        (fun j => f (j 0) (j 1) (j 2)) h).2
      = fun j => BitVec.ofNat 32 (ord (f (j 0) (j 1)) (Fin.castLE hR (j 2))).val := by
  funext j
  have e0 : (⟨0 + (j 0).val, by have := (j 0).isLt; simpa using this⟩ : Fin A) = j 0 := Fin.ext (Nat.zero_add _)
  have e1 : (⟨0 + (j 1).val, by have := (j 1).isLt; simpa using this⟩ : Fin B) = j 1 := Fin.ext (Nat.zero_add _)
  have e2 : (⟨0 + (j 2).val, by have := (j 2).isLt; simp at this; omega⟩ : Fin N) = Fin.castLE hR (j 2) := Fin.ext (Nat.zero_add _)
  change BitVec.ofNat 32 (sortedFrom (fun k k' => (FloatOps.cmpfTotal (F := Ideal) (φ := .f32) .gt
    (f ⟨0 + (j 0).val, _⟩ ⟨0 + (j 1).val, _⟩ k) (f ⟨0 + (j 0).val, _⟩ ⟨0 + (j 1).val, _⟩ k') == 1#1)) ⟨0 + (j 2).val, _⟩).val = _
  rw [gt_fun, e0, e1, e2]
  rfl

/-- The largest entries along the last of two axes. -/
theorem topK2_values (f : Fin A → Fin N → EReal) (hR : R ≤ N) (h : Shape.Slices ⟨2, ![A, N]⟩ (fun _ => 0) ⟨2, ![A, R]⟩) :
    (Host.topK (s := ⟨2, ![A, N]⟩) ⟨2, ![A, R]⟩ 1 (FloatOps.cmpfTotal (F := Ideal) (φ := .f32) .gt) (fun j => f (j 0) (j 1)) h).1
      = fun j => f (j 0) (ord (f (j 0)) (Fin.castLE hR (j 1))) := by
  funext j
  have e0 : (⟨0 + (j 0).val, by have := (j 0).isLt; simpa using this⟩ : Fin A) = j 0 := Fin.ext (Nat.zero_add _)
  have e1 : (⟨0 + (j 1).val, by have := (j 1).isLt; simp at this; omega⟩ : Fin N) = Fin.castLE hR (j 1) := Fin.ext (Nat.zero_add _)
  change f ⟨0 + (j 0).val, _⟩ (sortedFrom (fun k k' => (FloatOps.cmpfTotal (F := Ideal) (φ := .f32) .gt
    (f ⟨0 + (j 0).val, _⟩ k) (f ⟨0 + (j 0).val, _⟩ k') == 1#1)) ⟨0 + (j 1).val, _⟩) = _
  rw [gt_fun, e0, e1]
  rfl

/-- Their positions. -/
theorem topK2_indices (f : Fin A → Fin N → EReal) (hR : R ≤ N) (h : Shape.Slices ⟨2, ![A, N]⟩ (fun _ => 0) ⟨2, ![A, R]⟩) :
    (Host.topK (s := ⟨2, ![A, N]⟩) ⟨2, ![A, R]⟩ 1 (FloatOps.cmpfTotal (F := Ideal) (φ := .f32) .gt) (fun j => f (j 0) (j 1)) h).2
      = fun j => BitVec.ofNat 32 (ord (f (j 0)) (Fin.castLE hR (j 1))).val := by
  funext j
  have e0 : (⟨0 + (j 0).val, by have := (j 0).isLt; simpa using this⟩ : Fin A) = j 0 := Fin.ext (Nat.zero_add _)
  have e1 : (⟨0 + (j 1).val, by have := (j 1).isLt; simp at this; omega⟩ : Fin N) = Fin.castLE hR (j 1) := Fin.ext (Nat.zero_add _)
  change BitVec.ofNat 32 (sortedFrom (fun k k' => (FloatOps.cmpfTotal (F := Ideal) (φ := .f32) .gt
    (f ⟨0 + (j 0).val, _⟩ k) (f ⟨0 + (j 0).val, _⟩ k') == 1#1)) ⟨0 + (j 1).val, _⟩).val = _
  rw [gt_fun, e0, e1]
  rfl

/-- Wrapping negative positions changes nothing where all are small. -/
theorem wrap_words {s : Shape} (n : s.Idx → Nat) (hn : ∀ j, n j < 2 ^ 31) (z w : IVec s 32) (hz : ∀ j, z j = 0#32) :
    select (cmpi .slt (fun j => BitVec.ofNat 32 (n j)) z) w (fun j => BitVec.ofNat 32 (n j)) = fun j => BitVec.ofNat 32 (n j) := by
  funext j
  change Scalar.select (IntOp.cmpi .slt (BitVec.ofNat 32 (n j)) (z j)) _ _ = _
  rw [hz, slt_zero (hn j)]; rfl

/-- The range test of positions in range is one everywhere. -/
theorem mask_words {s : Shape} (n : s.Idx → Nat) (k : Nat) (hn : ∀ j, n j ≤ k) (hk : k < 2 ^ 31) (z w : IVec s 32)
    (hz : ∀ j, z j = 0#32) (hw : ∀ j, w j = BitVec.ofNat 32 k) (i) :
    andi (cmpi .sge (fun j => BitVec.ofNat 32 (n j)) z) (cmpi .sle (fun j => BitVec.ofNat 32 (n j)) w) i = 1#1 := by
  change IntOp.andi (IntOp.cmpi .sge (BitVec.ofNat 32 (n i)) (z i)) (IntOp.cmpi .sle (BitVec.ofNat 32 (n i)) (w i)) = _
  rw [hz, hw, sge_zero (lt_of_le_of_lt (hn i) hk), sle_ofNat (hn i) hk]; rfl

end Sorting

end Cert.Own
-- ==== Proof.KerPrep.lean ====
module

public import proofs.«01_k».proof.Proof.Out
public import proofs.«01_k».proof.Proof.Take
public import proofs.«01_k».proof.Proof.Gen.KernelIdeal.Frame
public import Idealize.ShloMosaic.Lib.Pointwise

/-! What one block of the first kernel computes: the class probabilities and the boxes. -/

@[expose] public section

noncomputable section

open Idealize.ShloMosaic Cert.KernelIdeal Cert.KernelIdeal.Gen

namespace Cert.Own

/-- A choice by a comparison of two small numbers' words for equality. -/
theorem select_eq_words {α : Type} (a b : Nat) (ha : a < 2 ^ 31) (hb : b < 2 ^ 31) (x y : α) :
    Scalar.select (IntOp.cmpi .eq (BitVec.ofNat 32 a) (BitVec.ofNat 32 b)) x y = if a = b then x else y := by
  have h : IntOp.cmpi .eq (BitVec.ofNat 32 a) (BitVec.ofNat 32 b) = BitVec.ofBool (decide (a = b)) := by
    show BitVec.ofBool (BitVec.ofNat 32 a == BitVec.ofNat 32 b) = _
    congr 1
    rw [Bool.eq_iff_iff, beq_iff_eq, decide_eq_true_iff, ← BitVec.toNat_inj, BitVec.toNat_ofNat, BitVec.toNat_ofNat,
      Nat.mod_eq_of_lt (by omega), Nat.mod_eq_of_lt (by omega)]
  rw [h]
  by_cases e : a = b
  · simp [e, Scalar.select]
  · simp [e, Scalar.select]

/-- A choice by a signed comparison of two small numbers' words. -/
theorem select_lt_words {α : Type} (a b : Nat) (ha : a < 2 ^ 31) (hb : b < 2 ^ 31) (x y : α) :
    Scalar.select (IntOp.cmpi .slt (BitVec.ofNat 32 a) (BitVec.ofNat 32 b)) x y = if a < b then x else y := by
  have h : IntOp.cmpi .slt (BitVec.ofNat 32 a) (BitVec.ofNat 32 b) = BitVec.ofBool (decide (a < b)) := by
    show BitVec.ofBool ((BitVec.ofNat 32 a).slt (BitVec.ofNat 32 b)) = _
    congr 1
    rw [BitVec.slt, toInt_small ha, toInt_small hb]
    simp
  rw [h]
  by_cases e : a < b
  · simp [e, Scalar.select]
  · simp [e, Scalar.select]

/-- The largest of finitely many numbers, as the fold from minus infinity. -/
theorem fold_max_bot {n : Nat} (f : Fin n → EReal) : Finset.univ.fold max (Ideal.ofBits .f32 0xFF800000#32) f = Finset.univ.sup f := by
  have hb : Ideal.ofBits .f32 0xFF800000#32 = ⊥ := by simp [Ideal.ofBits, Ideal.ieee]
  rw [hb]
  rfl

set_option maxHeartbeats 4000000 in
set_option maxRecDepth 65536 in
/-- The block of probabilities: the softmax's classes 1 to 20 at a prior, zero past the last prior. -/
theorem prep_probs (x : S1x21x8832.Idx → EReal) (k : Fin 20) (n : Fin 8832) :
    k0_pay2 (F := Ideal) x (ix3 0 k n) = if n.val < 8732 then prob (fun k => x (ix3 0 k n)) k else 0 := by
  unfold_payloads
  pointwise
  refine (select_lt_words n.val 8732 (by omega) (by omega) _ _).trans ?_
  simp only [fold_max_bot]
  rfl

set_option maxHeartbeats 4000000 in
set_option maxRecDepth 65536 in
/-- The block of boxes. -/
theorem prep_box (o : S1x4x8832.Idx → EReal) (p : S4x8832.Idx → EReal) (d : Fin 4) (n : Fin 8832) :
    k0_pay1 (F := Ideal) (k0_pay3 o) (k0_pay4 p) (k0_pay5 o p) (k0_pay6 o p) (k0_pay7 o) (ix3 0 d n)
      = box (fun d => o (ix3 0 d n)) (fun d => p (ix2 d n)) d := by
  fin_cases d
  · unfold_payloads
    pointwise
    rfl
  · unfold_payloads
    pointwise
    rfl
  · unfold_payloads
    pointwise
    rfl
  · unfold_payloads
    pointwise
    rfl

end Cert.Own
-- ==== Proof.KerNms.lean ====
module

public import proofs.«01_k».proof.Proof.KerPrep
public import proofs.«01_k».proof.Proof.Gen.KernelIdeal.Frame
public import Idealize.ShloMosaic.Lib.Pointwise

/-! What one block of the second kernel computes: overlaps, the suppression's trips, the kept candidates. -/

@[expose] public section

noncomputable section

open Idealize.ShloMosaic Cert.KernelIdeal Cert.KernelIdeal.Gen

namespace Cert.Own

set_option maxHeartbeats 4000000 in
set_option maxRecDepth 65536 in
/-- One class's table of overlaps. -/
theorem nms_iou (o : S1x1x200x4.Idx → EReal) (p : S1x1x4x200.Idx → EReal) (i j : Fin 200) :
    k1_pay5 (F := Ideal) (k1_pay4 (F := Ideal) o p) (ix3 i 0 j) = iou (fun d => o (ix4 0 0 i d)) (fun d => p (ix4 0 0 d j)) := by
  unfold_payloads
  pointwise
  unfold iou inter
  rw [Ideal.ofBits_zero_f32]

/-- The number of a trip as a word. -/
theorem iv_word (t : Nat) : Scf.iv 0#32 1#32 t = BitVec.ofNat 32 t := by
  simp [Scf.iv]

theorem fl_ite (p : Prop) [Decidable p] : (if p then (0 : EReal) else 1) = fl (decide ¬ p) := by
  unfold fl
  by_cases h : p <;> simp [h]

theorem fl_ite' (p : Prop) [Decidable p] : (if p then (1 : EReal) else 0) = fl (decide p) := by
  unfold fl
  by_cases h : p <;> simp [h]

open Classical in
set_option maxHeartbeats 4000000 in
set_option maxRecDepth 65536 in
/-- One trip of the suppression: on numbers 0 and 1 it is one step on truth values. -/
theorem nms_trip (t : Fin k1_t1_loop.trips) (i : Fin 200) (hi : i.val = t.val) (S : Fin 20 → Fin 200 → Bool) (x : S1x20x200.Idx → EReal)
    (g : Fin 20 → Fin 200 → Fin 200 → Bool) (hg : ∀ k j, g k i j = decide (Ideal.ofBits .f32 0x3EE66666#32 < x (ix3 0 k j))) (k : Fin 20) (j : Fin 200) :
    k1_pay237 (F := Ideal) t (fun y : S20x200.Idx => fl (S (y 0) (y 1))) x (ix2 k j) = fl (supStep (g k) i (S k) j) := by
  unfold_payloads
  pointwise
  rw [iv_word, ← hi]
  simp only [fold_max_bot]
  have e : ∀ (l : Fin 200) (a b : EReal), Scalar.select (IntOp.cmpi .eq (BitVec.ofNat 32 l.val) (BitVec.ofNat 32 i.val)) a b = if l = i then a else b := by
    intro l a b
    rw [select_eq_words l.val i.val (by omega) (by omega)]
    simp only [Fin.ext_iff]
  simp only [e, fl_ite, fl_ite']
  have hp := sup_pick (S k) i
  rw [← supStep_float, hg]
  simp only [ne_eq] at hp ⊢
  by_cases h : j = i
  · rw [if_pos h, hp, decide_eq_false (not_not.mpr h)]
    simp only [fl, Bool.false_eq_true, if_false, mul_zero]
  · rw [if_neg h, hp, decide_eq_true h]
    simp only [fl, if_true, mul_one]

open Classical in
set_option maxHeartbeats 4000000 in
set_option maxRecDepth 65536 in
/-- A candidate's score, times one if it is kept and zero if not. -/
theorem nms_score (v : S1x20x200.Idx → EReal) (S : Fin 20 → Fin 200 → Bool) (k : Fin 20) (j : Fin 200) :
    k1_pay2 (F := Ideal) (k1_pay238 v) (k1_pay239 (fun y : S20x200.Idx => fl (S (y 0) (y 1)))) k1_pay240 (ix3 0 k j)
      = v (ix3 0 k j) * fl (!(S k j) && decide (Ideal.ofBits .f32 0x3C23D70A#32 < v (ix3 0 k j))) := by
  unfold_payloads
  pointwise
  rw [fl_ite']
  show _ * ((1 - fl (S k j)) * _) = _
  rw [one_sub_fl]
  cases S k j <;> simp [fl]

open Classical in
set_option maxHeartbeats 4000000 in
set_option maxRecDepth 65536 in
/-- A candidate's box, times one if it is kept and zero if not. -/
theorem nms_box (v : S1x20x200.Idx → EReal) (S : Fin 20 → Fin 200 → Bool) (x : S1x20x200x4.Idx → EReal) (k : Fin 20) (j : Fin 200) (d : Fin 4) :
    k1_pay3 (F := Ideal) (k1_pay238 v) (k1_pay239 (fun y : S20x200.Idx => fl (S (y 0) (y 1)))) k1_pay240 x (ix4 0 k j d)
      = x (ix4 0 k j d) * fl (!(S k j) && decide (Ideal.ofBits .f32 0x3C23D70A#32 < v (ix3 0 k j))) := by
  unfold_payloads
  pointwise
  rw [fl_ite']
  show _ * ((1 - fl (S k j)) * _) = _
  rw [one_sub_fl]
  cases S k j <;> simp [fl]

end Cert.Own
-- ==== Proof.KerMerge.lean ====
module

public import proofs.«01_k».proof.Proof.Out
public import proofs.«01_k».proof.Proof.Order
public import proofs.«01_k».proof.Proof.KerPrep
public import Idealize.ShloMosaic.Lib.Pointwise

@[expose] public section

noncomputable section

open Idealize.ShloMosaic
open Cert.KernelIdeal Cert.KernelIdeal.Gen

namespace Cert.Own

/-- The smallest of words given by numbers below 2^31 is the smallest number as a word. -/
theorem fold_min_words {ι : Type} [DecidableEq ι] (S : Finset ι) (h : ι → Nat) (hh : ∀ i, h i < 2147483648) :
    S.fold IntOp.minsi 2147483647#32 (fun i => BitVec.ofNat 32 (h i)) = BitVec.ofNat 32 (S.fold min 2147483647 h) ∧ S.fold min 2147483647 h < 2147483648 := by
  induction S using Finset.induction_on with
  | empty => exact ⟨rfl, by simp⟩
  | insert a S ha ih =>
    rw [Finset.fold_insert ha, Finset.fold_insert ha, ih.1]
    refine ⟨?_, lt_of_le_of_lt (min_le_left _ _) (hh a)⟩
    unfold IntOp.minsi
    rw [BitVec.slt_eq_decide, toInt_small (hh a), toInt_small ih.2]
    by_cases h' : h a < S.fold min 2147483647 h
    · rw [min_eq_left h'.le]
      simp [h']
    · rw [min_eq_right (not_lt.mp h')]
      simp [h']

/-- The smallest of words, if one of them is a lower bound. -/
theorem fold_min_at {ι : Type} [DecidableEq ι] [Fintype ι] (h : ι → Nat) (hh : ∀ i, h i < 2147483648) (k : ι) (hk : ∀ i, h k ≤ h i) :
    (Finset.univ : Finset ι).fold IntOp.minsi 2147483647#32 (fun i => BitVec.ofNat 32 (h i)) = BitVec.ofNat 32 (h k) := by
  rw [(fold_min_words Finset.univ h hh).1]
  congr 1
  apply le_antisymm
  · exact (Finset.fold_min_le (h k)).2 (Or.inr ⟨k, Finset.mem_univ _, le_rfl⟩)
  · exact (Finset.le_fold_min (h k)).2 ⟨by have := hh k; omega, fun i _ => hk i⟩

/-- The greatest entry of each row. -/
theorem merge_max (s : S8x4096.Idx → EReal) (b : Fin 8) :
    k2_pay4 (F := Ideal) s (ix2 b 0) = (Finset.univ : Finset (Fin 4096)).sup (fun j => s (ix2 b j)) := by
  unfold_payloads
  pointwise
  rw [fold_max_bot]

/-- The first position of the greatest entry of each row. -/
theorem merge_first (s : S8x4096.Idx → EReal) (b : Fin 8) (k : Fin 4096) (hk : ∀ j, s (ix2 b j) ≤ s (ix2 b k))
    (hf : ∀ j, s (ix2 b j) = s (ix2 b k) → k ≤ j) :
    k2_pay5 (F := Ideal) s (ix2 b 0) = BitVec.ofNat 32 k.val := by
  unfold_payloads
  pointwise
  have e : (Finset.univ : Finset (Fin 4096)).sup (fun x => s (ix2 b x)) = s (ix2 b k) :=
    le_antisymm (Finset.sup_le fun j _ => hk j) (Finset.le_sup (f := fun x => s (ix2 b x)) (Finset.mem_univ k))
  rw [fold_max_bot, e]
  have h : (fun x : Fin 4096 => if s (ix2 b x) = s (ix2 b k) then BitVec.ofNat 32 x.val else 1073741824#32)
      = fun x => BitVec.ofNat 32 (if s (ix2 b x) = s (ix2 b k) then x.val else 1073741824) := by
    funext x; split_ifs <;> rfl
  rw [h, fold_min_at _ (fun i => by split_ifs <;> omega) k (fun i => by
    rw [if_pos rfl]
    split_ifs with hi
    · exact hf i hi
    · omega), if_pos rfl]

/-- What one trip records: the greatest entry of each row, in the trip's column. -/
theorem merge_value (t : Fin k2_t1_loop.trips) (s : S8x4096.Idx → EReal) (a : S8x200.Idx → EReal) (b : Fin 8) (r : Fin 200) :
    k2_pay6 (F := Ideal) t s a (ix2 b r) = if r.val = t.val then (Finset.univ : Finset (Fin 4096)).sup (fun j => s (ix2 b j)) else a (ix2 b r) := by
  unfold k2_pay6
  rw [← merge_max]
  generalize k2_pay4 (F := Ideal) s = m
  have ht : t.val < 200 := t.isLt
  pointwise
  rw [show Scf.iv 0#32 1#32 t.val = BitVec.ofNat 32 t.val by simp [Scf.iv], select_eq_words _ _ (by omega) (by omega)]

/-- What one trip records: the position of the greatest entry of each row, in the trip's column. -/
theorem merge_pos (t : Fin k2_t1_loop.trips) (s : S8x4096.Idx → EReal) (a : S8x200.Idx → BitVec 32) (b : Fin 8) (r : Fin 200) :
    k2_pay7 (F := Ideal) t s a (ix2 b r) = if r.val = t.val then k2_pay5 (F := Ideal) s (ix2 b 0) else a (ix2 b r) := by
  unfold k2_pay7
  generalize k2_pay5 (F := Ideal) s = m
  have ht : t.val < 200 := t.isLt
  pointwise
  rw [show Scf.iv 0#32 1#32 t.val = BitVec.ofNat 32 t.val by simp [Scf.iv], select_eq_words _ _ (by omega) (by omega)]

/-- What one trip leaves to choose from: the recorded entry is marked with -2. -/
theorem merge_mark (s : S8x4096.Idx → EReal) (b : Fin 8) (j k : Fin 4096) (hk : k2_pay5 (F := Ideal) s (ix2 b 0) = BitVec.ofNat 32 k.val) :
    k2_pay8 (F := Ideal) s (ix2 b j) = if j = k then Ideal.ofBits .f32 0xC0000000#32 else s (ix2 b j) := by
  unfold k2_pay8
  revert hk
  generalize k2_pay5 (F := Ideal) s = m
  intro hk
  pointwise
  rw [hk, select_eq_words _ _ (by omega) (by omega)]
  simp only [Fin.ext_iff]

/-- The values recorded before trip `k`: the `k` greatest entries in order, then zeros. -/
def mergedVal (x : Fin 8 → Fin 4096 → EReal) (k : Nat) : S8x200.Idx → EReal :=
  fun y => if (y 1).val < k then x (y 0) (ord (x (y 0)) (Fin.castLE (by decide) (y 1 : Fin 200))) else 0

/-- The positions recorded before trip `k`. -/
def mergedPos (x : Fin 8 → Fin 4096 → EReal) (k : Nat) : S8x200.Idx → BitVec 32 :=
  fun y => if (y 1).val < k then BitVec.ofNat 32 (ord (x (y 0)) (Fin.castLE (by decide) (y 1 : Fin 200))).val else 0#32

/-- The entries left to choose from before trip `k`. -/
def mergedLeft (x : Fin 8 → Fin 4096 → EReal) (k : Nat) : S8x4096.Idx → EReal :=
  fun y => marked (x (y 0)) (Ideal.ofBits .f32 0xC0000000#32) k (y 1)

/-- One trip keeps to the three descriptions. -/
theorem merge_trip (x : Fin 8 → Fin 4096 → EReal) (hx : ∀ b j, Ideal.ofBits .f32 0xC0000000#32 < x b j) (t : Fin k2_t1_loop.trips) :
    (k2_pay8 (F := Ideal) (mergedLeft x t.val), k2_pay6 (F := Ideal) t (mergedLeft x t.val) (mergedVal x t.val), k2_pay7 (F := Ideal) t (mergedLeft x t.val) (mergedPos x t.val))
      = (mergedLeft x (t.val + 1), mergedVal x (t.val + 1), mergedPos x (t.val + 1)) := by
  have ht : t.val < 200 := t.isLt
  have hs : ∀ b : Fin 8, (Finset.univ : Finset (Fin 4096)).sup (fun j => mergedLeft x t.val (ix2 b j)) = x b (ord (x b) ⟨t.val, by omega⟩) := fun b =>
    le_antisymm (Finset.sup_le fun j _ => marked_le (x b) _ (hx b) ⟨t.val, by omega⟩ j)
      ((marked_ord (x b) _ ⟨t.val, by omega⟩).symm.le.trans
        (Finset.le_sup (f := fun j => mergedLeft x t.val (ix2 b j)) (Finset.mem_univ _)))
  have hp : ∀ b : Fin 8, k2_pay5 (F := Ideal) (mergedLeft x t.val) (ix2 b 0) = BitVec.ofNat 32 (ord (x b) ⟨t.val, by omega⟩).val := fun b =>
    merge_first _ b _ (fun j => (marked_le (x b) _ (hx b) ⟨t.val, by omega⟩ j).trans (marked_ord (x b) _ ⟨t.val, by omega⟩).symm.le)
      (fun j h => marked_first (x b) _ (hx b) ⟨t.val, by omega⟩ j (h.trans (marked_ord (x b) _ ⟨t.val, by omega⟩)))
  have h1 : ∀ (b : Fin 8) (j : Fin 4096), k2_pay8 (F := Ideal) (mergedLeft x t.val) (ix2 b j) = mergedLeft x (t.val + 1) (ix2 b j) := fun b j =>
    (merge_mark _ b j _ (hp b)).trans (marked_succ (x b) _ ⟨t.val, by omega⟩ j).symm
  have h2 : ∀ (b : Fin 8) (r : Fin 200), k2_pay6 (F := Ideal) t (mergedLeft x t.val) (mergedVal x t.val) (ix2 b r) = mergedVal x (t.val + 1) (ix2 b r) := by
    intro b r
    rw [merge_value, hs]
    show (if r.val = t.val then _ else if r.val < t.val then _ else _) = if r.val < t.val + 1 then _ else _
    by_cases h : r.val = t.val
    · rw [if_pos h, if_pos (by omega)]
      exact congrArg (fun q => x b (ord (x b) q)) (Fin.ext h.symm)
    · rw [if_neg h]
      by_cases h' : r.val < t.val
      · rw [if_pos h', if_pos (by omega)]
      · rw [if_neg h', if_neg (by omega)]
  have h3 : ∀ (b : Fin 8) (r : Fin 200), k2_pay7 (F := Ideal) t (mergedLeft x t.val) (mergedPos x t.val) (ix2 b r) = mergedPos x (t.val + 1) (ix2 b r) := by
    intro b r
    rw [merge_pos, hp]
    show (if r.val = t.val then _ else if r.val < t.val then _ else _) = if r.val < t.val + 1 then _ else _
    by_cases h : r.val = t.val
    · rw [if_pos h, if_pos (by omega)]
      exact congrArg (fun q => BitVec.ofNat 32 (ord (x b) q).val) (Fin.ext h.symm)
    · rw [if_neg h]
      by_cases h' : r.val < t.val
      · rw [if_pos h', if_pos (by omega)]
      · rw [if_neg h', if_neg (by omega)]
  rw [Prod.mk.injEq, Prod.mk.injEq]
  refine ⟨funext fun y => ?_, funext fun y => ?_, funext fun y => ?_⟩
  · rw [show y = ix2 (y 0) (y 1) from eq_ix2 y]; exact h1 _ _
  · rw [show y = ix2 (y 0) (y 1) from eq_ix2 y]; exact h2 _ _
  · rw [show y = ix2 (y 0) (y 1) from eq_ix2 y]; exact h3 _ _

/-- A fold over `n` trips keeps to a description that each trip takes one step further. -/
theorem fold_steps {σ : Type} (n : Nat) (g : Fin n → σ → σ) (I : Nat → σ) (h : ∀ t : Fin n, g t (I t.val) = I (t.val + 1)) :
    Scf.fold g (I 0) = I n := by
  rw [Scf.fold_eq]
  induction n with
  | zero => rfl
  | succ n ih =>
    rw [List.finRange_succ_last, List.foldl_append, List.foldl_map]
    rw [ih (fun t => g t.castSucc) (fun t => h t.castSucc)]
    exact h (Fin.last n)

/-- All trips: the 200 greatest entries of each row in order, and their positions. -/
theorem merge_all (x : Fin 8 → Fin 4096 → EReal) (hx : ∀ b j, Ideal.ofBits .f32 0xC0000000#32 < x b j) :
    Scf.fold (n := k2_t1_loop.trips) (fun t (s : FVec Ideal S8x4096 .f32 × FVec Ideal S8x200 .f32 × IVec S8x200 32) => (k2_pay8 (F := Ideal) s.1, k2_pay6 (F := Ideal) t s.1 s.2.1, k2_pay7 (F := Ideal) t s.1 s.2.2))
      (k2_pay1 (F := Ideal) (fun y => x (y 0) (y 1)), k2_pay2 (F := Ideal), k2_pay3)
      = (mergedLeft x 200, mergedVal x 200, mergedPos x 200) := by
  have h0 : (k2_pay1 (F := Ideal) (fun y => x (y 0) (y 1)), k2_pay2 (F := Ideal), k2_pay3) = (mergedLeft x 0, mergedVal x 0, mergedPos x 0) := by
    rw [Prod.mk.injEq, Prod.mk.injEq]
    refine ⟨?_, funext fun y => ?_, funext fun y => ?_⟩
    · unfold k2_pay1 mergedLeft
      rw [shapeCast_self]
      funext y
      rw [marked_zero]
    · exact Ideal.ofBits_zero_f32
    · rfl
  rw [h0]
  exact fold_steps 200 _ (fun k => (mergedLeft x k, mergedVal x k, mergedPos x k)) fun t => merge_trip x hx t

end Cert.Own
-- ==== Proof.KerRun2.lean ====
module

public import proofs.«01_k».proof.Proof.KerMerge
public import Idealize.ShloMosaic.Lib.WholeRead
public import Idealize.ShloMosaic.Lib.Pipeline.ValueKit

@[expose] public section

noncomputable section

open Idealize.ShloMosaic Cert.KernelIdeal Cert.KernelIdeal.Gen

namespace Cert.Own

/-- A whole memref read through the rectangle that is all of it reads what it holds. -/
theorem readAt_all {κ : Kind} {sp : Space} {s : Shape} {e : EltTy} {m : Memref sig κ sp s e} (h : m.IsWhole) (X : s.Idx → Elt Ideal e)
    {off : Fin s.rank → Nat} (inb : ∀ a, off a + s.size a ≤ s.size a) (h0 : ∀ a, off a = 0) :
    View.readAt (Elt Ideal) m.view (Rect.unit (s := s) off s.size inb).toLoadRect (h.unread X) = X := by
  funext x
  rw [h.readAt_unread]
  refine congrArg X (funext fun a => Fin.ext ?_)
  refine (Rect.idx_unit_val off s.size inb x a).trans ?_
  rw [h0 a, Nat.zero_add]

set_option maxHeartbeats 4000000 in
set_option maxRecDepth 65536 in
/-- What the merge leaves in its first output: the 200 greatest entries of each row. -/
theorem merge_block_1 (c : Dev nD) (arg0 : Memref sig .tc .vmem S8x4096 .f32) (harg0 : arg0.IsWhole) (arg1 : Memref sig .tc .vmem S8x200 .f32) (harg1 : arg1.IsWhole) (arg2 : Memref sig .tc .vmem S8x200 .i32) (harg2 : arg2.IsWhole)
    (x : Fin 8 → Fin 4096 → EReal) (hx : ∀ b j, Ideal.ofBits .f32 0xC0000000#32 < x b j) :
    out2_A_1 (F := Ideal) c arg0 harg0 arg1 harg1 arg2 harg2 (fun y => x (y 0) (y 1)) = mergedVal x 200
    ∧ out2_A_2 (F := Ideal) c arg0 harg0 arg1 harg1 arg2 harg2 (fun y => x (y 0) (y 1)) = mergedPos x 200 := by
  have e : kernelRun2_A.sl.r (F := Ideal) c arg0 harg0 (fun y => x (y 0) (y 1)) = (mergedLeft x 200, mergedVal x 200, mergedPos x 200) := by
    unfold kernelRun2_A.sl.r
    rw [readAt_all harg0 _ _ (fun a => by fin_cases a <;> rfl)]
    exact merge_all x hx
  unfold out2_A_1 out2_A_2
  rw [View.read_writes_junk_eq_canon, View.read_writes_junk_eq_canon]
  dsimp only [kernelRun2_A]
  rw [e]
  exact ⟨View.canon_cons_unit_lit' _ _ _ (fun a => by fin_cases a <;> rfl), View.canon_cons_unit_lit' _ _ _ (fun a => by fin_cases a <;> rfl)⟩

end Cert.Own
-- ==== Proof.KerRun1.lean ====
module

public import proofs.«01_k».proof.Proof.KerNms
public import proofs.«01_k».proof.Proof.KerRun2
public import Idealize.ShloMosaic.Lib.Pipeline.ValueKit

@[expose] public section

noncomputable section

open Idealize.ShloMosaic Cert.KernelIdeal Cert.KernelIdeal.Gen

namespace Cert.Own

section Block

variable (c : Dev nD) (arg1 : Memref sig .tc .vmem S1x20x200x4 .f32) (harg1 : arg1.IsWhole) (arg2 : Memref sig .tc .vmem S1x20x4x200 .f32) (harg2 : arg2.IsWhole)
  (x0 : Vec Ideal S1x20x200x4 .f32) (x1 : Vec Ideal S1x20x4x200 .f32)

theorem inb_col (k : Fin 20) : ∀ a, (![0, k.val, 0] : Fin 3 → Nat) a + S200x1x200.size a ≤ S200x20x200.size a := by
  have := k.isLt
  intro a; fin_cases a
  · exact le_rfl
  · show k.val + 1 ≤ 20; omega
  · exact le_rfl

theorem inb_box (k : Fin 20) : ∀ a, (![0, k.val, 0, 0] : Fin 4 → Nat) a + S1x1x200x4.size a ≤ S1x20x200x4.size a := by
  have := k.isLt
  intro a; fin_cases a
  · exact le_rfl
  · show k.val + 1 ≤ 20; omega
  · exact le_rfl
  · exact le_rfl

theorem inb_boxT (k : Fin 20) : ∀ a, (![0, k.val, 0, 0] : Fin 4 → Nat) a + S1x1x4x200.size a ≤ S1x20x4x200.size a := by
  have := k.isLt
  intro a; fin_cases a
  · exact le_rfl
  · show k.val + 1 ≤ 20; omega
  · exact le_rfl
  · exact le_rfl

/-- The store of class `k`'s table of overlaps: the column it goes to and what it holds. -/
def colPiece (k : Fin 20) : View.Piece (Elt Ideal) S200x20x200 .f32 :=
  ⟨Rect.unit (s := S200x20x200) ![0, k.val, 0] S200x1x200.size (inb_col k),
    k1_pay5 (F := Ideal) (k1_pay4 (F := Ideal)
      (View.readAt (Elt Ideal) arg1.view (Rect.unit (s := S1x20x200x4) ![0, k.val, 0, 0] S1x1x200x4.size (inb_box k)).toLoadRect (harg1.unread x0))
      (View.readAt (Elt Ideal) arg2.view (Rect.unit (s := S1x20x4x200) ![0, k.val, 0, 0] S1x1x4x200.size (inb_boxT k)).toLoadRect (harg2.unread x1)))⟩

set_option maxHeartbeats 4000000 in
set_option maxRecDepth 65536 in
/-- The block's stores of tables of overlaps are one for each class, the last class first. -/
theorem cols_eq : kernelRun1_A.sl.HS0_20 (F := Ideal) c arg1 harg1 arg2 harg2 x0 x1 = List.ofFn fun k : Fin 20 => colPiece arg1 harg1 arg2 harg2 x0 x1 k.rev := by
  simp only [List.ofFn_succ, List.ofFn_zero]
  rfl

set_option maxHeartbeats 4000000 in
/-- What class `k`'s table holds. -/
theorem col_entry (k : Fin 20) (i j : Fin 200) : (colPiece arg1 harg1 arg2 harg2 x0 x1 k).2 (ix3 i 0 j)
    = iou (fun d => x0 (ix4 0 k i d)) (fun d => x1 (ix4 0 k d j)) := by
  unfold colPiece
  refine (nms_iou _ _ i j).trans ?_
  congr 1
  · funext d
    rw [harg1.readAt_unread]
    refine congrArg x0 (funext fun a => Fin.ext ?_)
    refine (Rect.idx_unit_val _ _ _ _ a).trans ?_
    fin_cases a
    · rfl
    · rfl
    · exact Nat.zero_add _
    · exact Nat.zero_add _
  · funext d
    rw [harg2.readAt_unread]
    refine congrArg x1 (funext fun a => Fin.ext ?_)
    refine (Rect.idx_unit_val _ _ _ _ a).trans ?_
    fin_cases a
    · rfl
    · rfl
    · exact Nat.zero_add _
    · exact Nat.zero_add _

set_option maxHeartbeats 4000000 in
/-- What the scratch array of overlaps holds after the stores. -/
theorem cols_read (i : Fin 200) (k : Fin 20) (j : Fin 200) : View.canon (kernelRun1_A.sl.HS0_20 (F := Ideal) c arg1 harg1 arg2 harg2 x0 x1) (ix3 i k j)
    = iou (fun d => x0 (ix4 0 k i d)) (fun d => x1 (ix4 0 k d j)) := by
  rw [cols_eq]
  refine View.canon_ofFn_unit_eq_of_forall (S := S200x20x200) (fun q : Fin 20 => ![0, q.rev.val, 0]) S200x1x200.size (fun q => inb_col q.rev)
    (fun q => (colPiece arg1 harg1 arg2 harg2 x0 x1 q.rev).2) (ix3 i k j) _ ⟨k.rev, fun a => ?_⟩ fun q x hx => ?_
  · have := i.isLt
    have := j.isLt
    rw [Fin.rev_rev]
    fin_cases a
    · exact ⟨Nat.zero_le _, by show i.val < 0 + 200; omega⟩
    · exact ⟨le_rfl, Nat.lt_succ_self _⟩
    · exact ⟨Nat.zero_le _, by show j.val < 0 + 200; omega⟩
  · have h0 : i.val = 0 + (x 0).val := hx 0
    have h1 : k.val = q.rev.val + (x 1).val := hx 1
    have h2 : j.val = 0 + (x 2).val := hx 2
    have h3 : (x 1).val < 1 := (x 1).isLt
    have hk : q.rev = k := Fin.ext (by omega)
    have ex : x = ix3 i 0 j := by
      funext a
      fin_cases a
      · exact Fin.ext (by show (x 0).val = i.val; omega)
      · exact Fin.ext (by show (x 1).val = 0; omega)
      · exact Fin.ext (by show (x 2).val = j.val; omega)
    rw [ex]
    show (colPiece arg1 harg1 arg2 harg2 x0 x1 q.rev).2 (ix3 i 0 j) = _
    rw [hk]
    exact col_entry arg1 harg1 arg2 harg2 x0 x1 k i j

variable (x2 : Vec Ideal S1x20x200 .f32) (i : grid1.Coords) (arg3 : Memref sig .tc .vmem S1x20x200 .f32) (harg3 : arg3.IsWhole) (arg4 : Memref sig .tc .vmem S1x20x200 .f32) (harg4 : arg4.IsWhole)
  (arg5 : Memref sig .tc .vmem S1x20x200x4 .f32) (harg5 : arg5.IsWhole) (arg6 : Memref sig .tc .vmem S200x20x200 .f32) (harg6 : arg6.IsWhole)

/-- The row a trip reads is the trip's number. -/
theorem off_row (t : Fin k1_t1_loop.trips) : k1_off1 t 0 = t.val := by
  revert t; decide +kernel

/-- The flags before trip `n`, as numbers. -/
def flags (n : Nat) : S20x200.Idx → EReal := fun y => fl (supAfter (overlap fun r d => x0 (ix4 0 (y 0) r d)) n (y 1))

set_option maxHeartbeats 4000000 in
set_option maxRecDepth 65536 in
/-- One trip of the loop takes the flags one step further. -/
theorem trip_flags (hT : ∀ k j d, x1 (ix4 0 k d j) = x0 (ix4 0 k j d)) (𝒱 : Variants) (bd : Option 𝒱.V)
    (v897 : FVec Ideal S200x1 .f32) (v898 : FVec Ideal S200x1 .f32) (v899 : FVec Ideal S200x1 .f32) (v900 : FVec Ideal S200x1 .f32) (v901 : FVec Ideal S1x200 .f32) (v902 : FVec Ideal S1x200 .f32) (v903 : FVec Ideal S1x200 .f32) (v904 : FVec Ideal S1x200 .f32) (v905 : FVec Ideal S200x200 .f32)
    (t : Fin k1_t1_loop.trips) :
    tripR_k1_t1 (F := Ideal) 𝒱 c bd i arg1 harg1 arg2 harg2 arg3 harg3 arg4 harg4 arg5 harg5 arg6 harg6 v897 v898 v899 v900 v901 v902 v903 v904 v905
      (arg6.view.writes (Elt Ideal) arg6.view.junk (kernelRun1_A.sl.HS0_20 (F := Ideal) c arg1 harg1 arg2 harg2 x0 x1)) t (flags x0 t.val) = flags x0 (t.val + 1) := by
  have ht : t.val < 200 := t.isLt
  unfold tripR_k1_t1 trip_k1_t1
  dsimp only
  rw [View.readAt_writes_junk_eq_canon]
  have h : ∀ (k : Fin 20) (j : Fin 200), k1_pay237 (F := Ideal) t (flags x0 t.val)
      (fun y => View.canon (kernelRun1_A.sl.HS0_20 (F := Ideal) c arg1 harg1 arg2 harg2 x0 x1) ((Rect.unit (s := S200x20x200) (k1_off1 t) ![1, 20, 200] (k1_off1_inb t)).toLoadRect.idx y)) (ix2 k j) = flags x0 (t.val + 1) (ix2 k j) := by
    intro k j
    refine (nms_trip t ⟨t.val, ht⟩ rfl (fun k => supAfter (overlap fun r d => x0 (ix4 0 k r d)) t.val) _ (fun k => overlap fun r d => x0 (ix4 0 k r d)) (fun k j => ?_) k j).trans ?_
    · have e : (Rect.unit (s := S200x20x200) (k1_off1 t) ![1, 20, 200] (k1_off1_inb t)).toLoadRect.idx (ix3 0 k j) = ix3 ⟨t.val, ht⟩ k j := by
        funext a
        refine Fin.ext ((Rect.idx_unit_val _ _ _ _ a).trans ?_)
        fin_cases a
        · exact off_row t
        · exact Nat.zero_add _
        · exact Nat.zero_add _
      rw [e, cols_read]
      unfold overlap
      simp only [hT]
    · unfold flags
      show _ = fl (supAfter _ (t.val + 1) j)
      rw [supAfter, dif_pos ht]
      rfl
  exact funext fun y => by rw [show y = ix2 (y 0) (y 1) from eq_ix2 y]; exact h (y 0) (y 1)

set_option maxHeartbeats 4000000 in
set_option maxRecDepth 65536 in
/-- What the block leaves in its two outputs: the scores and the boxes of the candidates kept, zeros for the others. -/
theorem nms_block (hT : ∀ k j d, x1 (ix4 0 k d j) = x0 (ix4 0 k j d)) :
    out1_A_3 (F := Ideal) c i arg1 harg1 arg2 harg2 arg3 harg3 arg4 harg4 arg5 harg5 arg6 harg6 x0 x1 x2
      = (fun y => x2 y * fl (keepBit (fun r d => x0 (ix4 0 (y 1) r d)) (fun r => x2 (ix3 0 (y 1) r)) (y 2)))
    ∧ out1_A_4 (F := Ideal) c i arg1 harg1 arg2 harg2 arg3 harg3 arg4 harg4 arg5 harg5 arg6 harg6 x0 x1 x2
      = (fun y => x0 y * fl (keepBit (fun r d => x0 (ix4 0 (y 1) r d)) (fun r => x2 (ix3 0 (y 1) r)) (y 2))) := by
  have e2 : kernelRun1_A.sl.r_134 (F := Ideal) c arg3 harg3 x2 = k1_pay238 (F := Ideal) x2 := by
    unfold kernelRun1_A.sl.r_134
    rw [readAt_all harg3 _ _ (fun a => by fin_cases a <;> rfl)]
  have e1 : kernelRun1_A.sl.r_135 (F := Ideal) c i arg1 harg1 arg2 harg2 arg3 harg3 arg4 harg4 arg5 harg5 arg6 harg6 x0 x1
      = k1_pay239 (F := Ideal) (flags x0 200) := by
    unfold kernelRun1_A.sl.r_135
    refine congrArg (k1_pay239 (F := Ideal)) ?_
    have h : ∀ n, n ≤ 200 → st_k1_t1 (F := Ideal) Variants.none c none i arg1 harg1 arg2 harg2 arg3 harg3 arg4 harg4 arg5 harg5 arg6 harg6
      (kernelRun1_A.sl.r_125 c arg1 harg1 x0) (kernelRun1_A.sl.r_126 c arg1 harg1 x0)
      (kernelRun1_A.sl.r_127 c arg1 harg1 x0) (kernelRun1_A.sl.r_128 c arg1 harg1 x0)
      (kernelRun1_A.sl.r_129 c arg2 harg2 x1) (kernelRun1_A.sl.r_130 c arg2 harg2 x1)
      (kernelRun1_A.sl.r_131 c arg2 harg2 x1) (kernelRun1_A.sl.r_132 c arg2 harg2 x1)
      (kernelRun1_A.sl.r_133 c arg1 harg1 x0)
      (arg6.view.writes (Elt Ideal) arg6.view.junk (kernelRun1_A.sl.HS0_20 c arg1 harg1 arg2 harg2 x0 x1)) (k1_pay236 (F := Ideal)) n = flags x0 n := by
      intro n
      induction n with
      | zero =>
        intro _
        rw [st_k1_t1_zero]
        funext y
        exact Ideal.ofBits_zero_f32
      | succ n ih =>
        intro hn
        have ht : n < k1_t1_loop.trips := hn
        refine (st_k1_t1_succ (F := Ideal) Variants.none c none i arg1 harg1 arg2 harg2 arg3 harg3 arg4 harg4 arg5 harg5 arg6 harg6 _ _ _ _ _ _ _ _ _ _ _ ⟨n, ht⟩).trans ?_
        show tripR_k1_t1 (F := Ideal) Variants.none c none i arg1 harg1 arg2 harg2 arg3 harg3 arg4 harg4 arg5 harg5 arg6 harg6 _ _ _ _ _ _ _ _ _ _ ⟨n, ht⟩ (st_k1_t1 (F := Ideal) Variants.none c none i arg1 harg1 arg2 harg2 arg3 harg3 arg4 harg4 arg5 harg5 arg6 harg6 _ _ _ _ _ _ _ _ _ _ _ n) = _
        rw [ih (by omega)]
        exact trip_flags c arg1 harg1 arg2 harg2 x0 x1 i arg3 harg3 arg4 harg4 arg5 harg5 arg6 harg6 hT _ _ _ _ _ _ _ _ _ _ _ ⟨n, ht⟩
    exact h 200 le_rfl
  have e0 : kernelRun1_A.sl.v958 (F := Ideal) c arg1 harg1 x0 = x0 :=
    readAt_all harg1 _ _ (fun a => by fin_cases a <;> rfl)
  unfold out1_A_3 out1_A_4
  rw [View.read_writes_junk_eq_canon, View.read_writes_junk_eq_canon]
  dsimp only [kernelRun1_A]
  rw [e1, e2, e0]
  refine ⟨(View.canon_cons_unit_lit' _ _ _ (fun a => by fin_cases a <;> rfl)).trans ?_, (View.canon_cons_unit_lit' _ _ _ (fun a => by fin_cases a <;> rfl)).trans ?_⟩
  · have h : ∀ (k : Fin 20) (j : Fin 200), k1_pay2 (F := Ideal) (k1_pay238 (F := Ideal) x2) (k1_pay239 (F := Ideal) (flags x0 200)) (k1_pay240 (F := Ideal)) (ix3 0 k j)
        = x2 (ix3 0 k j) * fl (keepBit (fun r d => x0 (ix4 0 k r d)) (fun r => x2 (ix3 0 k r)) j) := fun k j =>
      nms_score x2 (fun k => supAfter (overlap fun r d => x0 (ix4 0 k r d)) 200) k j
    exact funext fun y => by
      rw [show y = ix3 0 (y 1) (y 2) from (eq_ix3 y).trans (congrArg (fun q => ix3 q (y 1) (y 2)) (Subsingleton.elim (α := Fin 1) _ _))]
      exact h (y 1) (y 2)
  · have h : ∀ (k : Fin 20) (j : Fin 200) (d : Fin 4), k1_pay3 (F := Ideal) (k1_pay238 (F := Ideal) x2) (k1_pay239 (F := Ideal) (flags x0 200)) (k1_pay240 (F := Ideal)) x0 (ix4 0 k j d)
        = x0 (ix4 0 k j d) * fl (keepBit (fun r d => x0 (ix4 0 k r d)) (fun r => x2 (ix3 0 k r)) j) := fun k j d =>
      nms_box x2 (fun k => supAfter (overlap fun r d => x0 (ix4 0 k r d)) 200) x0 k j d
    exact funext fun y => by
      rw [show y = ix4 0 (y 1) (y 2) (y 3) from (eq_ix4 y).trans (congrArg (fun q => ix4 q (y 1) (y 2) (y 3)) (Subsingleton.elim (α := Fin 1) _ _))]
      exact h (y 1) (y 2) (y 3)

end Block

end Cert.Own
-- ==== Proof.KerArr.lean ====
module

public import proofs.«01_k».proof.Proof.KerRun1
public import proofs.«01_k».proof.Proof.Gen.KernelIdeal.Points

@[expose] public section

noncomputable section

open Idealize.ShloMosaic Idealize.ShloMosaic.TcCoe Cert.KernelIdeal Cert.KernelIdeal.Gen

namespace Cert.Own

/-- Each class's probabilities, zeros past the last prior, over the array of logits. -/
def probsOf (X : S8x21x8832.Idx → EReal) : S8x20x8832.Idx → EReal := fun j =>
  if (j 2).val < 8732 then prob (fun k => X (ix3 (j 0) k (j 2))) (j 1) else 0

/-- The boxes, over the arrays of offsets and priors. -/
def boxesOf (X : S8x4x8832.Idx → EReal) (P : S4x8832.Idx → EReal) : S8x4x8832.Idx → EReal := fun j =>
  box (fun d => X (ix3 (j 0) d (j 2))) (fun d => P (ix2 d (j 2))) (j 1)

/-- Whether image `b` keeps class `k`'s candidate `r`, over the arrays of boxes and scores. -/
def keptK (X : S8x20x200x4.Idx → EReal) (S : S8x20x200.Idx → EReal) (b : Fin 8) (k : Fin 20) (r : Fin 200) : Bool :=
  keepBit (fun r d => X (ix4 b k r d)) (fun r => S (ix3 b k r)) r

/-- The scores of the candidates kept, zeros for the others. -/
def keptScores (X : S8x20x200x4.Idx → EReal) (S : S8x20x200.Idx → EReal) : S8x20x200.Idx → EReal := fun y => S y * fl (keptK X S (y 0) (y 1) (y 2))

/-- The boxes of the candidates kept, zeros for the others. -/
def keptBoxes (X : S8x20x200x4.Idx → EReal) (S : S8x20x200.Idx → EReal) : S8x20x200x4.Idx → EReal := fun y => X y * fl (keptK X S (y 0) (y 1) (y 2))

section Regions

variable (V : (c : Dev nD) → (b : Ref sig .tc) → Buf (Elt Ideal) ((c : Thread nD τ).loc b)) (c : Dev nD)

theorem idx0_0 : ∀ t : Fin cfg0.N, win0_0.index t = ![(grid0.coords t 0).val, 0, 0] := by decide +kernel
theorem idx0_1 : ∀ t : Fin cfg0.N, win0_1.index t = ![(grid0.coords t 0).val, 0, 0] := by decide +kernel
theorem idx0_2 : ∀ t : Fin cfg0.N, win0_2.index t = ![0, 0] := by decide +kernel
theorem idx0_3 : ∀ t : Fin cfg0.N, win0_3.index t = ![(grid0.coords t 0).val, 0, 0] := by decide +kernel
theorem idx0_4 : ∀ t : Fin cfg0.N, win0_4.index t = ![(grid0.coords t 0).val, 0, 0] := by decide +kernel
theorem idx1_0 : ∀ t : Fin cfg1.N, win1_0.index t = ![(grid1.coords t 0).val, 0, 0, 0] := by decide +kernel
theorem idx1_1 : ∀ t : Fin cfg1.N, win1_1.index t = ![(grid1.coords t 0).val, 0, 0, 0] := by decide +kernel
theorem idx1_2 : ∀ t : Fin cfg1.N, win1_2.index t = ![(grid1.coords t 0).val, 0, 0] := by decide +kernel
theorem idx1_3 : ∀ t : Fin cfg1.N, win1_3.index t = ![(grid1.coords t 0).val, 0, 0] := by decide +kernel
theorem idx1_4 : ∀ t : Fin cfg1.N, win1_4.index t = ![(grid1.coords t 0).val, 0, 0, 0] := by decide +kernel
theorem idx2_0 : ∀ t : Fin cfg2.N, win2_0.index t = ![0, 0] := by decide +kernel
theorem idx2_1 : ∀ t : Fin cfg2.N, win2_1.index t = ![0, 0] := by decide +kernel
theorem idx2_2 : ∀ t : Fin cfg2.N, win2_2.index t = ![0, 0] := by decide +kernel

/-- The block of logits a point reads is its image's. -/
theorem blk0_0 (t : Fin cfg0.N) : iblk0 V c 0 t = fun x : S1x21x8832.Idx => V c main_v1 (ix3 (grid0.coords t 0) (x 1) (x 2)) := by
  funext x
  blk_simp [iblk0]
  refine congrArg (V c main_v1) ?_
  blk_ext [idx0_0 t]

/-- The block of offsets a point reads is its image's. -/
theorem blk0_1 (t : Fin cfg0.N) : iblk0 V c 1 t = fun x : S1x4x8832.Idx => V c main_v3 (ix3 (grid0.coords t 0) (x 1) (x 2)) := by
  funext x
  blk_simp [iblk0]
  refine congrArg (V c main_v3) ?_
  blk_ext [idx0_1 t]

/-- The block of priors a point reads is all of them. -/
theorem blk0_2 (t : Fin cfg0.N) : iblk0 V c 2 t = V c main_v5 := by
  funext x
  blk_simp [iblk0]
  refine congrArg (V c main_v5) ?_
  blk_ext [idx0_2 t]

theorem emb0_3 (t : Fin cfg0.N) (y : S1x20x8832.Idx) : (win0_3.blk t).view.emb y = ix3 (grid0.coords t 0) (y 1) (y 2) := by
  blk_ext [idx0_3 t]

theorem emb0_4 (t : Fin cfg0.N) (y : S1x4x8832.Idx) : (win0_4.blk t).view.emb y = ix3 (grid0.coords t 0) (y 1) (y 2) := by
  blk_ext [idx0_4 t]

set_option maxHeartbeats 4000000 in
set_option maxRecDepth 65536 in
/-- The first kernel's first result: each class's probabilities, zeros past the last prior. -/
theorem arr0_probs : (dat0 V c).arrAt 3 cfg0.N = probsOf (V c main_v1) := by
  refine (dat0 V c).arrAt_eq_of_covers 3 _ (by decide +kernel) fun t hf y => ?_
  refine Eq.trans ?_ (congrArg (probsOf (V c main_v1)) (emb0_3 t y)).symm
  blk_simp
  rw [after0_3]
  unfold out0_3
  rw [View.canon_cons_unit_lit' _ _ _ (fun a => by fin_cases a <;> rfl), View.ld_unit_lit' _ _ (fun a => by fin_cases a <;> rfl), blk0_0]
  rw [show y = ix3 0 (y 1) (y 2) from (eq_ix3 y).trans (congrArg (fun q => ix3 q (y 1) (y 2)) (Subsingleton.elim (α := Fin 1) _ _))]
  exact prep_probs _ (y 1) (y 2)

/-- One entry of a block of boxes, from what the two loads read. -/
theorem box_point (o : S1x4x8832.Idx → EReal) (p : S4x8832.Idx → EReal) (X : S8x4x8832.Idx → EReal) (P : S4x8832.Idx → EReal) (b : Fin 8)
    (ho : o = fun x : S1x4x8832.Idx => X (ix3 b (x 1) (x 2))) (hp : p = P) (y : S1x4x8832.Idx) :
    k0_pay1 (F := Ideal) (k0_pay3 o) (k0_pay4 p) (k0_pay5 o p) (k0_pay6 o p) (k0_pay7 o) y = boxesOf X P (ix3 b (y 1) (y 2)) := by
  subst ho hp
  rw [show y = ix3 0 (y 1) (y 2) from (eq_ix3 y).trans (congrArg (fun q => ix3 q (y 1) (y 2)) (Subsingleton.elim (α := Fin 1) _ _))]
  exact prep_box _ _ (y 1) (y 2)

set_option maxHeartbeats 4000000 in
set_option maxRecDepth 65536 in
/-- The first kernel's second result: the boxes. -/
theorem arr0_boxes : (dat0 V c).arrAt 4 cfg0.N = boxesOf (V c main_v3) (V c main_v5) := by
  refine (dat0 V c).arrAt_eq_of_covers 4 _ (by decide +kernel) fun t hf y => ?_
  refine Eq.trans ?_ (congrArg (boxesOf (V c main_v3) (V c main_v5)) (emb0_4 t y)).symm
  blk_simp
  rw [after0_4]
  unfold out0_4
  have e1 : View.ld (iblk0 V c 1 t) r0_2 = fun x : S1x4x8832.Idx => V c main_v3 (ix3 (grid0.coords t 0) (x 1) (x 2)) :=
    (View.ld_unit_lit' _ _ (fun a => by fin_cases a <;> rfl)).trans (blk0_1 V c t)
  have e2 : View.ld (iblk0 V c 2 t) r0_3 = V c main_v5 :=
    (View.ld_unit_lit' _ _ (fun a => by fin_cases a <;> rfl)).trans (blk0_2 V c t)
  rw [View.canon_cons_unit_lit' _ _ _ (fun a => by fin_cases a <;> rfl)]
  exact box_point _ _ _ _ _ e1 e2 y

theorem emb2_1 (t : Fin cfg2.N) (y : S8x200.Idx) : (win2_1.blk t).view.emb y = y := by
  blk_ext [idx2_1 t]

theorem emb2_2 (t : Fin cfg2.N) (y : S8x200.Idx) : (win2_2.blk t).view.emb y = y := by
  blk_ext [idx2_2 t]

theorem blk2_0 (t : Fin cfg2.N) : iblk2 V c 0 t = V c main_v17 := by
  funext x
  blk_simp [iblk2]
  refine congrArg (V c main_v17) ?_
  blk_ext [idx2_0 t]

set_option maxHeartbeats 4000000 in
set_option maxRecDepth 65536 in
/-- The merge's results. -/
theorem arr2 (x : Fin 8 → Fin 4096 → EReal) (hx : ∀ b j, Ideal.ofBits .f32 0xC0000000#32 < x b j)
    (hV : V c main_v17 = fun y : S8x4096.Idx => x (y 0) (y 1)) :
    (dat2 V c).arrAt 1 cfg2.N = mergedVal x 200 ∧ (dat2 V c).arrAt 2 cfg2.N = mergedPos x 200 := by
  constructor
  · refine (dat2 V c).arrAt_eq_of_covers 1 _ (by decide +kernel) fun t hf y => ?_
    refine Eq.trans ?_ (congrArg (mergedVal x 200) (emb2_1 t y)).symm
    blk_simp
    rw [after2_1]
    unfold outsAt2
    rw [blk2_0, hV]
    exact congrFun (merge_block_1 c (ms2_0 t) (hs2_0 t) (ms2_1 t) (hs2_1 t) (ms2_2 t) (hs2_2 t) x hx).1 y
  · refine (dat2 V c).arrAt_eq_of_covers 2 _ (by decide +kernel) fun t hf y => ?_
    refine Eq.trans ?_ (congrArg (mergedPos x 200) (emb2_2 t y)).symm
    blk_simp
    rw [after2_2]
    unfold outsAt2
    rw [blk2_0, hV]
    exact congrFun (merge_block_1 c (ms2_0 t) (hs2_0 t) (ms2_1 t) (hs2_1 t) (ms2_2 t) (hs2_2 t) x hx).2 y

theorem emb1_3 (t : Fin cfg1.N) (y : S1x20x200.Idx) : (win1_3.blk t).view.emb y = ix3 (grid1.coords t 0) (y 1) (y 2) := by
  blk_ext [idx1_3 t]

theorem emb1_4 (t : Fin cfg1.N) (y : S1x20x200x4.Idx) : (win1_4.blk t).view.emb y = ix4 (grid1.coords t 0) (y 1) (y 2) (y 3) := by
  blk_ext [idx1_4 t]

theorem blk1_0 (t : Fin cfg1.N) : iblk1 V c 0 t = fun x : S1x20x200x4.Idx => V c main_v12 (ix4 (grid1.coords t 0) (x 1) (x 2) (x 3)) := by
  funext x
  blk_simp [iblk1]
  refine congrArg (V c main_v12) ?_
  blk_ext [idx1_0 t]

theorem blk1_1 (t : Fin cfg1.N) : iblk1 V c 1 t = fun x : S1x20x4x200.Idx => V c main_v13 (ix4 (grid1.coords t 0) (x 1) (x 2) (x 3)) := by
  funext x
  blk_simp [iblk1]
  refine congrArg (V c main_v13) ?_
  blk_ext [idx1_1 t]

theorem blk1_2 (t : Fin cfg1.N) : iblk1 V c 2 t = fun x : S1x20x200.Idx => V c main_v14 (ix3 (grid1.coords t 0) (x 1) (x 2)) := by
  funext x
  blk_simp [iblk1]
  refine congrArg (V c main_v14) ?_
  blk_ext [idx1_2 t]

set_option maxHeartbeats 4000000 in
set_option maxRecDepth 65536 in
/-- The suppression's results. -/
theorem arr1 (hT : ∀ b k j d, V c main_v13 (ix4 b k d j) = V c main_v12 (ix4 b k j d)) :
    (dat1 V c).arrAt 3 cfg1.N = keptScores (V c main_v12) (V c main_v14)
    ∧ (dat1 V c).arrAt 4 cfg1.N = keptBoxes (V c main_v12) (V c main_v14) := by
  have hb : ∀ t : Fin cfg1.N, ∀ k j d, iblk1 V c 1 t (ix4 0 k d j) = iblk1 V c 0 t (ix4 0 k j d) := by
    intro t k j d
    rw [blk1_0, blk1_1]
    exact hT _ k j d
  constructor
  · refine (dat1 V c).arrAt_eq_of_covers 3 _ (by decide +kernel) fun t hf y => ?_
    refine Eq.trans ?_ (congrArg (keptScores (V c main_v12) (V c main_v14)) (emb1_3 t y)).symm
    blk_simp
    rw [after1_3]
    unfold outsAt1
    refine (congrFun (nms_block c (ms1_0 t) (hs1_0 t) (ms1_1 t) (hs1_1 t) (iblk1 V c 0 t) (iblk1 V c 1 t) (iblk1 V c 2 t) (grid1.coords t) (ms1_2 t) (hs1_2 t) (ms1_3 t) (hs1_3 t) (ms1_4 t) (hs1_4 t) scM1_0 (Memref.isWhole_whole _) (hb t)).1 y).trans ?_
    rw [blk1_0, blk1_2]
    rfl
  · refine (dat1 V c).arrAt_eq_of_covers 4 _ (by decide +kernel) fun t hf y => ?_
    refine Eq.trans ?_ (congrArg (keptBoxes (V c main_v12) (V c main_v14)) (emb1_4 t y)).symm
    blk_simp
    rw [after1_4]
    unfold outsAt1
    refine (congrFun (nms_block c (ms1_0 t) (hs1_0 t) (ms1_1 t) (hs1_1 t) (iblk1 V c 0 t) (iblk1 V c 1 t) (iblk1 V c 2 t) (grid1.coords t) (ms1_2 t) (hs1_2 t) (ms1_3 t) (hs1_3 t) (ms1_4 t) (hs1_4 t) scM1_0 (Memref.isWhole_whole _) (hb t)).2 y).trans ?_
    rw [blk1_0, blk1_2]
    rfl

end Regions

end Cert.Own
-- ==== Proof.KerHost0.lean ====
module

public import proofs.«01_k».proof.Proof.KerArr
public import proofs.«01_k».proof.Proof.Casts
public import proofs.«01_k».proof.Proof.Take
public import proofs.«01_k».proof.Proof.Gen.KernelIdeal.Frame
public import Idealize.ShloMosaic.Lib.KernelVsHost
public import Idealize.ShloMosaic.Lib.StableHlo.RunRead

/-! The arrays the first kernel reads: the arguments with their prior axis moved last and lengthened. -/

@[expose] public section

noncomputable section

open Idealize.ShloMosaic Idealize.ShloMosaic.StableHlo Idealize.ShloMosaic.TcCoe Cert.KernelIdeal Cert.KernelIdeal.Gen

namespace Cert.Own

/-- The contents of the kernel's buffers. -/
abbrev KV := Valuation Cert.KernelIdeal.τ Cert.KernelIdeal.sig (Elt Ideal)

/-- A lengthened last axis, of three, read inside. -/
theorem pad3_at {α : Type} {A B N M p : Nat} (x : Shape.Idx ⟨3, ![A, B, N]⟩ → α) {u : Shape} (v : u.Idx → α)
    (h : Shape.Pads ⟨3, ![A, B, N]⟩ ![0, 0, 0] ![0, 0, p] ![0, 0, 0] ⟨3, ![A, B, M]⟩) (hu : 0 < u.numel) (hM : N ≤ M)
    (b : Fin A) (k : Fin B) (n : Fin N) :
    pad ⟨3, ![A, B, M]⟩ ![0, 0, 0] ![0, 0, p] ![0, 0, 0] x v h hu (ix3 b k (Fin.castLE hM n)) = x (ix3 b k n) := by
  refine pad_apply_of_inside _ _ _ _ _ _ _ _ _ fun a => ?_
  fin_cases a
  · exact (by omega : b.val = 0 + b.val * (0 + 1))
  · exact (by omega : k.val = 0 + k.val * (0 + 1))
  · exact (by omega : n.val = 0 + n.val * (0 + 1))

/-- A lengthened last axis, of two, read inside. -/
theorem pad2_at {α : Type} {A N M p : Nat} (x : Shape.Idx ⟨2, ![A, N]⟩ → α) {u : Shape} (v : u.Idx → α)
    (h : Shape.Pads ⟨2, ![A, N]⟩ ![0, 0] ![0, p] ![0, 0] ⟨2, ![A, M]⟩) (hu : 0 < u.numel) (hM : N ≤ M)
    (b : Fin A) (n : Fin N) :
    pad ⟨2, ![A, M]⟩ ![0, 0] ![0, p] ![0, 0] x v h hu (ix2 b (Fin.castLE hM n)) = x (ix2 b n) := by
  refine pad_apply_of_inside _ _ _ _ _ _ _ _ _ fun a => ?_
  fin_cases a
  · exact (by omega : b.val = 0 + b.val * (0 + 1))
  · exact (by omega : n.val = 0 + n.val * (0 + 1))

/-- A lengthened last axis, of two, read outside. -/
theorem pad2_out {α : Type} {A N M p : Nat} (x : Shape.Idx ⟨2, ![A, N]⟩ → α) {u : Shape} (v : u.Idx → α)
    (h : Shape.Pads ⟨2, ![A, N]⟩ ![0, 0] ![0, p] ![0, 0] ⟨2, ![A, M]⟩) (hu : 0 < u.numel)
    (b : Fin A) (n : Fin M) (hn : N ≤ n.val) :
    pad ⟨2, ![A, M]⟩ ![0, 0] ![0, p] ![0, 0] x v h hu (ix2 b n) = v (Shape.Idx.first hu) := by
  refine pad_apply_of_not_inside _ _ _ _ _ _ _ _ 1 fun hh => ?_
  have h2 : (n.val - 0) / (0 + 1) < N := hh.2.2
  simp at h2
  omega

variable (V : KV)

set_option maxHeartbeats 4000000 in
set_option maxRecDepth 100000 in
/-- The logits, classes before priors, at a prior that is there. -/
theorem ker_logits (b : Fin 8) (k : Fin 21) (n : Fin 8732) :
    after hostOps0_1 (after hostOps0 V) main_v1 (ix3 b k (Fin.castLE (by omega) n) : S8x21x8832.Idx) = V main_arg1 (ix3 b n k : S8x8732x21.Idx) := by
  after_reads_simp
  refine (pad3_at (p := 100) _ _ pads_S8x21x8732_S8x21x8832_000_000_01000 h_S_ (by omega) b k n).trans ?_
  refine congrArg (V main_arg1) (funext fun a => ?_)
  fin_cases a <;> rfl

set_option maxHeartbeats 4000000 in
set_option maxRecDepth 100000 in
/-- The offsets, coordinates before priors, at a prior that is there. -/
theorem ker_offsets (b : Fin 8) (d : Fin 4) (n : Fin 8732) :
    after hostOps0_3 (after hostOps0_2 V) main_v3 (ix3 b d (Fin.castLE (by omega) n) : S8x4x8832.Idx) = V main_arg0 (ix3 b n d : S8x8732x4.Idx) := by
  after_reads_simp
  refine (pad3_at (p := 100) _ _ pads_S8x4x8732_S8x4x8832_000_000_01000 h_S_ (by omega) b d n).trans ?_
  refine congrArg (V main_arg0) (funext fun a => ?_)
  fin_cases a <;> rfl

set_option maxHeartbeats 4000000 in
set_option maxRecDepth 100000 in
/-- The priors, coordinates first, at a prior that is there. -/
theorem ker_priors (d : Fin 4) (n : Fin 8732) :
    after hostOps0_5 (after hostOps0_4 V) main_v5 (ix2 d (Fin.castLE (by omega) n) : S4x8832.Idx) = V main_arg2 (ix2 n d : S8732x4.Idx) := by
  after_reads_simp
  refine (pad2_at (p := 100) _ _ pads_S4x8732_S4x8832_000_01000 h_S_ (by omega) d n).trans ?_
  refine congrArg (V main_arg2) (funext fun a => ?_)
  fin_cases a <;> rfl

end Cert.Own
-- ==== Proof.KerHost1.lean ====
module

public import proofs.«01_k».proof.Proof.KerHost0

/-! Between the first and the second kernel: the sort of each class and the boxes read at its places. -/

@[expose] public section

noncomputable section

open Idealize.ShloMosaic Idealize.ShloMosaic.StableHlo Idealize.ShloMosaic.TcCoe Cert.KernelIdeal Cert.KernelIdeal.Gen

namespace Cert.Own

variable (V : KV)

set_option maxHeartbeats 4000000 in
set_option maxRecDepth 100000 in
/-- The sorted probabilities. -/
theorem ker_values (p : Fin 8 → Fin 20 → Fin 8832 → EReal) (h : V main_v6_0 = fun j : S8x20x8832.Idx => p (j 0) (j 1) (j 2)) :
    after hostOps1 V main_values
      = fun j : S160x200.Idx => p (rb (j 0)) (rk (j 0)) (ord (p (rb (j 0)) (rk (j 0))) (Fin.castLE (show 200 ≤ 8832 by omega) (j 1))) := by
  have e : after hostOps1 V main_values
      = (Host.topK S160x200 1 (FloatOps.cmpfTotal (F := Ideal) (φ := .f32) .gt) (shapeCast S160x8832 (V main_v6_0) shapeCasts_S8x20x8832_S160x8832)
          sliceFits_S160x8832_S160x200).1 := by
    after_reads_simp
    rfl
  rw [e, h]
  erw [cast_8_20_8832_to_160_8832]
  exact topK2_values (fun q n => p (rb q) (rk q) n) (by omega) _

set_option maxHeartbeats 4000000 in
set_option maxRecDepth 100000 in
/-- Their places. -/
theorem ker_places (p : Fin 8 → Fin 20 → Fin 8832 → EReal) (h : V main_v6_0 = fun j : S8x20x8832.Idx => p (j 0) (j 1) (j 2)) :
    after hostOps1 V main_indices
      = fun j : S160x200.Idx => BitVec.ofNat 32 (ord (p (rb (j 0)) (rk (j 0))) (Fin.castLE (show 200 ≤ 8832 by omega) (j 1))).val := by
  have e : after hostOps1 V main_indices
      = (Host.topK S160x200 1 (FloatOps.cmpfTotal (F := Ideal) (φ := .f32) .gt) (shapeCast S160x8832 (V main_v6_0) shapeCasts_S8x20x8832_S160x8832)
          sliceFits_S160x8832_S160x200).2 := by
    after_reads_simp
    rfl
  rw [e, h]
  erw [cast_8_20_8832_to_160_8832]
  exact topK2_indices (fun q n => p (rb q) (rk q) n) (by omega) _

set_option maxHeartbeats 4000000 in
set_option maxRecDepth 100000 in
/-- The places of an image's classes in one list. -/
theorem ker_place_list (p : Fin 8 → Fin 20 → Fin 8832 → EReal) (h : V main_v6_0 = fun j : S8x20x8832.Idx => p (j 0) (j 1) (j 2)) :
    after hostOps1 V main_v10
      = fun j : S8x4000x1.Idx => BitVec.ofNat 32 (ord (p (j 0) (qc (j 1))) (Fin.castLE (show 200 ≤ 8832 by omega) (qr (j 1)))).val := by
  have e : after hostOps1 V main_v10
      = broadcastInDim S8x4000x1 ![0, 1] bcast_S8x4000_S8x4000x1_0_1 (shapeCast S8x4000 (after hostOps1 V main_indices) shapeCasts_S160x200_S8x4000) := by
    after_reads_simp
    rfl
  rw [e, ker_places V p h]
  erw [cast_160_200_to_8_4000]
  have hb : ∀ (b : Fin 8) (q : Fin 4000), BitVec.ofNat 32 (ord (p (rb (rowOf b (qc q))) (rk (rowOf b (qc q)))) (Fin.castLE (show 200 ≤ 8832 by omega) (qr q))).val
      = BitVec.ofNat 32 (ord (p b (qc q)) (Fin.castLE (show 200 ≤ 8832 by omega) (qr q))).val := fun b q => by rw [rb_rowOf, rk_rowOf]
  exact funext fun j => hb (j 0) (j 1)

set_option maxHeartbeats 4000000 in
set_option maxRecDepth 100000 in
/-- The boxes with their coordinates last. -/
theorem ker_box_rows : after hostOps1 V main_v8 = fun j : S8x8832x4.Idx => V main_v6_1 (ix3 (j 0) (j 2) (j 1) : S8x4x8832.Idx) := by
  after_reads_simp
  funext j
  refine congrArg (V main_v6_1) (funext fun a => ?_)
  fin_cases a <;> rfl

set_option maxHeartbeats 4000000 in
set_option maxRecDepth 100000 in
/-- Boxes read at given places. -/
theorem ker_take (x : Fin 8 → Fin 8832 → Fin 4 → EReal) (n : Fin 8 → Fin 4000 → Fin 8832)
    (h : V main_v8 = fun j : S8x8832x4.Idx => x (j 0) (j 1) (j 2))
    (hn : V main_v10 = fun j : S8x4000x1.Idx => BitVec.ofNat 32 (n (j 0) (j 1)).val) :
    after hostOps1_1 V main_v11 = fun j : S8x4000x4.Idx => x (j 0) (n (j 0) (j 1)) (j 2) := by
  after_reads_simp
  rw [h, hn]
  erw [wrap_words (s := S8x4000x1) (fun j => (n (j 0) (j 1)).val) (fun j => by have := (n (j 0) (j 1)).isLt; omega)
    (broadcastInDim S8x4000x1 ![] bcast_S_S8x4000x1 (constantI S_ 32 0#32))
    (addi (fun j => BitVec.ofNat 32 (n (j 0) (j 1)).val) (broadcastInDim S8x4000x1 ![] bcast_S_S8x4000x1 (constantI S_ 32 8832#32))) (fun _ => rfl)]
  erw [reduce_ones _ _ _ _ (mask_words (s := S8x4000x1) (fun j => (n (j 0) (j 1)).val) 8831 (fun j => by have := (n (j 0) (j 1)).isLt; omega)
    (by omega) _ _ (fun _ => rfl) (fun _ => rfl)) (fun _ => rfl)]
  refine Eq.trans ?_ (gather3 gather_S8x8832x4_S8x4000x1_S8x4000x4_2_1_0_0_1_2_114_wf x n (by omega))
  funext j
  rfl

set_option maxHeartbeats 4000000 in
set_option maxRecDepth 100000 in
/-- The candidates' boxes by class. -/
theorem ker_cand_boxes (x : Fin 8 → Fin 4000 → Fin 4 → EReal) (h : V main_v11 = fun j : S8x4000x4.Idx => x (j 0) (j 1) (j 2)) :
    after hostOps1_2 V main_v12 = fun j : S8x20x200x4.Idx => x (j 0) (fq (j 1) (j 2)) (j 3) := by
  after_reads_simp
  rw [h]
  exact cast_8_4000_4_to_8_20_200_4 _ _

set_option maxHeartbeats 4000000 in
set_option maxRecDepth 100000 in
/-- The same with the last two axes exchanged. -/
theorem ker_cand_boxes_t (b : Fin 8) (k : Fin 20) (j : Fin 200) (d : Fin 4) :
    after hostOps1_2 V main_v13 (ix4 b k d j : S8x20x4x200.Idx) = after hostOps1_2 V main_v12 (ix4 b k j d : S8x20x200x4.Idx) := by
  have e : after hostOps1_2 V main_v13 = transpose S8x20x4x200 [0, 1, 3, 2] (after hostOps1_2 V main_v12) transposes_S8x20x200x4_S8x20x4x200_0_1_3_2 := by
    after_reads_simp
  rw [e]
  refine congrArg (after hostOps1_2 V main_v12) (funext fun a => ?_)
  fin_cases a <;> rfl

set_option maxHeartbeats 4000000 in
set_option maxRecDepth 100000 in
/-- The candidates' scores by class. -/
theorem ker_cand_scores (x : Fin 160 → Fin 200 → EReal) (h : V main_values = fun j : S160x200.Idx => x (j 0) (j 1)) :
    after hostOps1_2 V main_v14 = fun j : S8x20x200.Idx => x (rowOf (j 0) (j 1)) (j 2) := by
  after_reads_simp
  rw [h]
  exact cast_160_200_to_8_20_200 _ _

end Cert.Own
-- ==== Proof.KerHost2.lean ====
module

public import proofs.«01_k».proof.Proof.KerHost0
public import Idealize.ShloMosaic.Lib.Routing.Words

/-! Around the third kernel: the list of scores lengthened, the boxes read at its places, and the labels. -/

@[expose] public section

noncomputable section

open Idealize.ShloMosaic Idealize.ShloMosaic.StableHlo Idealize.ShloMosaic.TcCoe Cert.KernelIdeal Cert.KernelIdeal.Gen

namespace Cert.Own

variable (V : KV)

/-- A row of 4000 entries lengthened by the number minus one. -/
def longer (x : Fin 4000 → EReal) (j : Fin 4096) : EReal := if h : j.val < 4000 then x ⟨j.val, h⟩ else Ideal.ofBits .f32 0xBF800000#32

set_option maxHeartbeats 4000000 in
set_option maxRecDepth 100000 in
/-- The merge's scores. -/
theorem ker_merge_in (x : Fin 8 → Fin 20 → Fin 200 → EReal) (h : V main_v15_0 = fun j : S8x20x200.Idx => x (j 0) (j 1) (j 2)) :
    after hostOps2_1 (after hostOps2 V) main_v17 = fun y : S8x4096.Idx => longer (fun q => x (y 0) (qc q) (qr q)) (y 1) := by
  after_reads_simp
  rw [h]
  have hc : (fun i => shapeCast S8x4000 (fun j : S8x20x200.Idx => x (j 0) (j 1) (j 2)) shapeCasts_S8x20x200_S8x4000 i)
      = fun j : S8x4000.Idx => x (j 0) (qc (j 1)) (qr (j 1)) := cast_8_20_200_to_8_4000 _ _
  erw [hc]
  funext y
  by_cases hy : (y 1).val < 4000
  · refine Eq.trans ?_ (dif_pos hy).symm
    refine (congrArg _ (show y = ix2 (y 0) (Fin.castLE (by omega) (⟨(y 1).val, hy⟩ : Fin 4000)) from eq_ix2 y)).trans ?_
    exact pad2_at (p := 96) _ _ pads_S8x4000_S8x4096_000_0960 h_S_ (by omega) (y 0) (⟨(y 1).val, hy⟩ : Fin 4000)
  · refine Eq.trans ?_ (dif_neg hy).symm
    refine (congrArg _ (eq_ix2 y)).trans ?_
    exact pad2_out (p := 96) _ _ pads_S8x4000_S8x4096_000_0960 h_S_ (y 0) (y 1) (Nat.le_of_not_lt hy)

set_option maxHeartbeats 4000000 in
set_option maxRecDepth 100000 in
/-- The boxes in one list. -/
theorem ker_box_list (x : Fin 8 → Fin 20 → Fin 200 → Fin 4 → EReal) (h : V main_v15_1 = fun j : S8x20x200x4.Idx => x (j 0) (j 1) (j 2) (j 3)) :
    after hostOps3 V main_v19 = fun j : S8x4000x4.Idx => x (j 0) (qc (j 1)) (qr (j 1)) (j 2) := by
  after_reads_simp
  rw [h]
  exact cast_8_20_200_4_to_8_4000_4 _ _

set_option maxHeartbeats 4000000 in
set_option maxRecDepth 100000 in
/-- The merge's places with a unit axis. -/
theorem ker_place1 (n : Fin 8 → Fin 200 → Nat) (h : V main_v18_1 = fun j : S8x200.Idx => BitVec.ofNat 32 (n (j 0) (j 1))) :
    after hostOps3 V main_v20 = fun j : S8x200x1.Idx => BitVec.ofNat 32 (n (j 0) (j 1)) := by
  after_reads_simp
  rw [h]
  funext j
  rfl

set_option maxHeartbeats 4000000 in
set_option maxRecDepth 100000 in
/-- Boxes read at given places. -/
theorem ker_take_boxes (x : Fin 8 → Fin 4000 → Fin 4 → EReal) (n : Fin 8 → Fin 200 → Fin 4000)
    (h : V main_v19 = fun j : S8x4000x4.Idx => x (j 0) (j 1) (j 2))
    (hn : V main_v20 = fun j : S8x200x1.Idx => BitVec.ofNat 32 (n (j 0) (j 1)).val) :
    after hostOps3_1 V main_v21 = fun j : S8x200x4.Idx => x (j 0) (n (j 0) (j 1)) (j 2) := by
  after_reads_simp
  rw [h, hn]
  erw [wrap_words (s := S8x200x1) (fun j => (n (j 0) (j 1)).val) (fun j => by have := (n (j 0) (j 1)).isLt; omega)
    (broadcastInDim S8x200x1 ![] bcast_S_S8x200x1 (constantI S_ 32 0#32))
    (addi (fun j => BitVec.ofNat 32 (n (j 0) (j 1)).val) (broadcastInDim S8x200x1 ![] bcast_S_S8x200x1 (constantI S_ 32 4000#32))) (fun _ => rfl)]
  erw [reduce_ones _ _ _ _ (mask_words (s := S8x200x1) (fun j => (n (j 0) (j 1)).val) 3999 (fun j => by have := (n (j 0) (j 1)).isLt; omega)
    (by omega) _ _ (fun _ => rfl) (fun _ => rfl)) (fun _ => rfl)]
  refine Eq.trans ?_ (gather3 gather_S8x4000x4_S8x200x1_S8x200x4_2_1_0_0_1_2_114_wf x n (by omega))
  funext j
  rfl

/-- The sign of a word. -/
def sgn (a : BitVec 32) : BitVec 32 := if a = 0 then 0 else if a.msb then -1 else 1

/-- The quotient of a small word by 200, with the correction for signs that never applies. -/
theorem quot_word (n : Nat) (hn : n < 4000) :
    Scalar.select (IntOp.andi (IntOp.cmpi .ne (sgn (BitVec.ofNat 32 n)) (sgn 200#32)) (IntOp.cmpi .ne (IntOp.remsi .host (BitVec.ofNat 32 n) 200#32) 0#32))
      (IntOp.subi (IntOp.divsi .host (BitVec.ofNat 32 n) 200#32) 1#32) (IntOp.divsi .host (BitVec.ofNat 32 n) 200#32) = BitVec.ofNat 32 (n / 200) := by
  have hd : IntOp.divsi .host (BitVec.ofNat 32 n) 200#32 = BitVec.ofNat 32 (n / 200) := Routing.divsi_word .host (by omega) (by omega) (by omega)
  have hm : IntOp.andi (IntOp.cmpi .ne (sgn (BitVec.ofNat 32 n)) (sgn 200#32)) (IntOp.cmpi .ne (IntOp.remsi .host (BitVec.ofNat 32 n) 200#32) 0#32) = 0#1 := by
    by_cases h0 : n = 0
    · subst h0; decide
    · have h1 : BitVec.ofNat 32 n ≠ 0 := by
        intro h
        have := congrArg BitVec.toNat h
        simp at this
        omega
      have h2 : (BitVec.ofNat 32 n).msb = false := by
        rw [BitVec.msb_eq_false_iff_two_mul_lt, BitVec.toNat_ofNat]
        omega
      have h3 : sgn (BitVec.ofNat 32 n) = sgn 200#32 := by
        unfold sgn
        rw [if_neg h1, h2]
        decide
      rw [h3]
      have h4 : IntOp.cmpi .ne (sgn 200#32) (sgn 200#32) = 0#1 := by decide
      rw [h4]
      exact BitVec.zero_and
  rw [hm, hd]
  rfl

/-- The quotient of words by 200, as the program computes it. -/
def quotients (a : IVec S8x200 32) : IVec S8x200 32 :=
  select (andi (cmpi .ne (signi a) (broadcastInDim S8x200 ![] bcast_S_S8x200 (signi (constantI S_ 32 200#32))))
      (cmpi .ne (Host.remsi a (broadcastInDim S8x200 ![] bcast_S_S8x200 (constantI S_ 32 200#32))) (broadcastInDim S8x200 ![] bcast_S_S8x200 (constantI S_ 32 0#32))))
    (subi (Host.divsi a (broadcastInDim S8x200 ![] bcast_S_S8x200 (constantI S_ 32 200#32))) (broadcastInDim S8x200 ![] bcast_S_S8x200 (constantI S_ 32 1#32)))
    (Host.divsi a (broadcastInDim S8x200 ![] bcast_S_S8x200 (constantI S_ 32 200#32)))

set_option maxHeartbeats 4000000 in
set_option maxRecDepth 100000 in
/-- The classes of the merge's places. -/
theorem ker_class (n : Fin 8 → Fin 200 → Fin 4000) (h : V main_v18_1 = fun j : S8x200.Idx => BitVec.ofNat 32 (n (j 0) (j 1)).val) :
    after hostOps3_3 (after hostOps3_2 V) main_v22 = fun j : S8x200.Idx => BitVec.ofNat 32 ((n (j 0) (j 1)).val / 200) := by
  have e : after hostOps3_3 (after hostOps3_2 V) main_v22 = quotients (V main_v18_1) := by
    after_reads_simp
    rfl
  rw [e, h]
  funext j
  exact quot_word (n (j 0) (j 1)).val (n (j 0) (j 1)).isLt

open Classical in
set_option maxHeartbeats 4000000 in
set_option maxRecDepth 100000 in
/-- The labels: the class counted from one where the score is positive, else zero. -/
theorem ker_label (x : Fin 8 → Fin 200 → EReal) (n : Fin 8 → Fin 200 → Nat) (hx : V main_v18_0 = fun j : S8x200.Idx => x (j 0) (j 1))
    (hn : V main_v22 = fun j : S8x200.Idx => BitVec.ofNat 32 (n (j 0) (j 1))) :
    after hostOps3_4 V main_v28 = fun j : S8x200.Idx => if 0 < x (j 0) (j 1) then BitVec.ofNat 32 (n (j 0) (j 1) + 1) else 0#32 := by
  after_reads_simp
  rw [hx, hn]
  funext j
  change IntOp.muli (IntOp.addi (BitVec.ofNat 32 (n (j 0) (j 1))) 1#32) (BitVec.zeroExtend 32 (BitVec.ofBool (decide (Ideal.ofBits .f32 0x00000000#32
    < x (j 0) (j 1))))) = _
  rw [Ideal.ofBits_zero_f32]
  have he : IntOp.addi (BitVec.ofNat 32 (n (j 0) (j 1))) 1#32 = BitVec.ofNat 32 (n (j 0) (j 1) + 1) := by
    change _ + 1#32 = _
    rw [← BitVec.ofNat_add]
  rw [he]
  by_cases hp : 0 < x (j 0) (j 1)
  · rw [if_pos hp, decide_eq_true hp]; exact BitVec.mul_one _
  · rw [if_neg hp, decide_eq_false hp]; exact BitVec.mul_zero

end Cert.Own
-- ==== Proof.Early.lean ====
module

public import proofs.«01_k».proof.Proof.Spec

/-! A candidate's fate depends on the candidates before it alone: overlap is symmetric, so a later candidate that overlaps it is suppressed by it
    or changes nothing. Zero scores added to a class's list therefore change neither what is kept nor what is returned. -/

@[expose] public section

noncomputable section

open Idealize.ShloMosaic

namespace Cert.Own

theorem inter_comm (a b : Fin 4 → EReal) : inter a b = inter b a := by
  unfold inter
  rw [min_comm (a 2), min_comm (a 3), max_comm (a 0), max_comm (a 1)]

theorem iou_comm (a b : Fin 4 → EReal) : iou a b = iou b a := by
  unfold iou
  rw [inter_comm a b, add_comm ((a 2 - a 0) * (a 3 - a 1))]

theorem overlap_comm (b : Fin 200 → Fin 4 → EReal) (i j : Fin 200) : overlap b i j = overlap b j i := by
  unfold overlap
  rw [iou_comm]

theorem supAfter_succ (g : Fin 200 → Fin 200 → Bool) (i : Fin 200) : supAfter g (i.val + 1) = supStep g i (supAfter g i.val) := by
  conv_lhs => unfold supAfter
  exact dif_pos i.isLt

/-- A suppressed candidate stays suppressed. -/
theorem supStep_keeps (g : Fin 200 → Fin 200 → Bool) (i : Fin 200) (s : Fin 200 → Bool) (j : Fin 200) (h : s j = true) : supStep g i s j = true := by
  unfold supStep
  by_cases hi : s i = true
  · rw [if_pos hi, h]
  · have hne : j ≠ i := fun e => hi (e ▸ h)
    rw [if_neg hi, h]
    simp [hne]

theorem supAfter_keeps (g : Fin 200 → Fin 200 → Bool) (k : Nat) (d : Nat) (j : Fin 200) (h : supAfter g k j = true) : supAfter g (k + d) j = true := by
  induction d with
  | zero => exact h
  | succ d ih =>
    rw [← Nat.add_assoc]
    unfold supAfter
    split
    · exact supStep_keeps g _ _ _ ih
    · exact ih

/-- Steps after a candidate's own leave it as it is. -/
theorem supAfter_later (g : Fin 200 → Fin 200 → Bool) (hg : ∀ i j, g i j = g j i) (j : Fin 200) (d : Nat) :
    supAfter g (j.val + 1 + d) j = supAfter g (j.val + 1) j := by
  induction d with
  | zero => rfl
  | succ d ih =>
    rw [← ih, ← Nat.add_assoc]
    by_cases hk : j.val + 1 + d < 200
    · rw [supAfter_succ g ⟨j.val + 1 + d, hk⟩]
      dsimp only
      cases hj : supAfter g (j.val + 1 + d) j with
      | true => exact supStep_keeps g _ _ _ hj
      | false =>
        have hne : j ≠ ⟨j.val + 1 + d, hk⟩ := fun e => by have := congrArg Fin.val e; dsimp only at this; omega
        cases hi : supAfter g (j.val + 1 + d) ⟨j.val + 1 + d, hk⟩ with
        | true => simp [supStep, hi, hj]
        | false =>
          have h0 : supAfter g j.val j = false := by
            cases h : supAfter g j.val j with
            | false => rfl
            | true =>
              have := supAfter_keeps g j.val (1 + d) j h
              rw [← Nat.add_assoc, hj] at this
              exact this.symm
          have hgij : g ⟨j.val + 1 + d, hk⟩ j = false := by
            cases h : g ⟨j.val + 1 + d, hk⟩ j with
            | false => rfl
            | true =>
              have h1 : supAfter g (j.val + 1) ⟨j.val + 1 + d, hk⟩ = true := by
                rw [supAfter_succ g j]
                rw [hg] at h
                simp [supStep, h0, h, Ne.symm hne]
              have := supAfter_keeps g _ d _ h1
              rw [hi] at this
              exact this.symm
          simp [supStep, hi, hj, hgij]
    · conv_lhs => unfold supAfter
      rw [dif_neg hk]

/-- Candidates before step `k` that agree up to place `r` are suppressed alike up to place `r`. -/
theorem supAfter_congr (g g' : Fin 200 → Fin 200 → Bool) (r : Fin 200) (h : ∀ i ≤ r, ∀ j ≤ r, g i j = g' i j) (k : Nat) (hk : k ≤ r.val + 1)
    (j : Fin 200) (hj : j ≤ r) : supAfter g k j = supAfter g' k j := by
  induction k generalizing j with
  | zero => rfl
  | succ k ih =>
    have hr := r.isLt
    have hkr : (⟨k, by omega⟩ : Fin 200) ≤ r := Fin.le_def.mpr (by dsimp only; omega)
    rw [supAfter_succ g ⟨k, by omega⟩, supAfter_succ g' ⟨k, by omega⟩]
    unfold supStep
    dsimp only
    rw [ih (by omega) _ hkr, ih (by omega) j hj, h _ hkr j hj]

/-- Whether candidate `r` is kept depends on its score and on the boxes up to its own. -/
theorem keepBit_congr (b b' : Fin 200 → Fin 4 → EReal) (v v' : Fin 200 → EReal) (r : Fin 200) (hb : ∀ i ≤ r, b i = b' i) (hv : v r = v' r) :
    keepBit b v r = keepBit b' v' r := by
  have e : r.val + 1 + (199 - r.val) = 200 := by have := r.isLt; omega
  have h := supAfter_later (overlap b) (overlap_comm b) r (199 - r.val)
  have h' := supAfter_later (overlap b') (overlap_comm b') r (199 - r.val)
  rw [e] at h h'
  have hs := supAfter_congr (overlap b) (overlap b') r (fun i hi j hj => by unfold overlap; rw [hb i hi, hb j hj]) (r.val + 1) (le_refl _) r (le_refl _)
  unfold keepBit
  rw [h, h', hs, hv]

variable (off : Fin 8732 → Fin 4 → EReal) (cls : Fin 8732 → Fin 21 → EReal) (pb : Fin 8732 → Fin 4 → EReal)

/-- A class's candidates taken from its probabilities lengthened by zeros: kept or not, their scores and boxes come out as without the zeros. -/
theorem kept_pad (k : Fin 20) (x : Fin 8832 → EReal) (y : Fin 8832 → Fin 4 → EReal)
    (hx : ∀ n : Fin 8732, x (Fin.castLE (by omega) n) = probs cls k n) (hz : ∀ n : Fin 8832, 8732 ≤ n.val → x n = 0)
    (hy : ∀ n : Fin 8732, y (Fin.castLE (by omega) n) = box (off n) (pb n)) (s : Fin 200 → Fin 8832)
    (hs : ∀ r, s r = ord x (Fin.castLE (by omega) r)) (r : Fin 200) :
    x (s r) * fl (keepBit (fun r => y (s r)) (fun r => x (s r)) r) = kscore off cls pb k r
      ∧ ∀ d, y (s r) d * fl (keepBit (fun r => y (s r)) (fun r => x (s r)) r) = kbox off cls pb k r d := by
  rcases ord_pad_zero (show 8732 ≤ 8832 by omega) (probs cls k) x hx hz (Fin.castLE (show 200 ≤ 8732 by omega) r) with h | ⟨h, h'⟩
  · have hc : ∀ i ≤ r, s i = Fin.castLE (by omega) (cidx cls k i) := fun i hi => (hs i).trans (h (Fin.castLE (show 200 ≤ 8732 by omega) i) hi)
    have ev : x (s r) = cval cls k r := by rw [hc r (le_refl _), hx]; rfl
    have eb : ∀ i ≤ r, y (s i) = cbox off cls pb k i := fun i hi => by rw [hc i hi, hy]; rfl
    have ek : keepBit (fun r => y (s r)) (fun r => x (s r)) r = keep off cls pb k r := keepBit_congr _ _ _ _ r eb ev
    rw [ek, ev, eb r (le_refl _)]
    refine ⟨?_, fun d => rfl⟩
    unfold kscore
    cases keep off cls pb k r <;> simp [fl]
  · have hv : x (s r) ≤ 0 := (congrArg x (hs r)).le.trans h'
    have e1 : keepBit (fun r => y (s r)) (fun r => x (s r)) r = false := keepBit_nonpos _ _ _ hv
    have e2 : keep off cls pb k r = false := keepBit_nonpos _ _ _ h
    rw [e1]
    unfold kscore kbox
    rw [e2]
    simp [fl]

end Cert.Own
-- ==== Proof.KerOut0.lean ====
module

public import proofs.«01_k».proof.Proof.KerHost1
public import proofs.«01_k».proof.Proof.KerHost2
public import proofs.«01_k».proof.Proof.Out
public import proofs.«01_k».proof.Proof.Early

/-! What the kernel's arrays hold up to the candidates, as functions of the arguments. -/

@[expose] public section

noncomputable section

open Idealize.ShloMosaic Idealize.ShloMosaic.StableHlo Idealize.ShloMosaic.TcCoe Cert.KernelIdeal Cert.KernelIdeal.Gen

namespace Cert.Own

variable (m : (ℓ : Loc Cert.KernelIdeal.nD Cert.KernelIdeal.τ Cert.KernelIdeal.sig) → Buf (Elt Ideal) ℓ) (ρ : Dev Cert.KernelIdeal.nD → PrngReg)
  (c : Dev Cert.KernelIdeal.nD)

/-- The first argument at launch. -/
abbrev kA0 : S8x8732x4.Idx → EReal := m ((c : Thread nD τ).loc main_arg0)
/-- The second argument at launch. -/
abbrev kA1 : S8x8732x21.Idx → EReal := m ((c : Thread nD τ).loc main_arg1)
/-- The third argument at launch. -/
abbrev kA2 : S8732x4.Idx → EReal := m ((c : Thread nD τ).loc main_arg2)

/-- The logits before the first kernel. -/
theorem w6_logits (b : Fin 8) (k : Fin 21) (n : Fin 8732) :
    W6 m ρ c main_v1 (ix3 b k (Fin.castLE (by omega) n) : S8x21x8832.Idx) = clsOf (kA1 m c) b n k := by
  have e : W6 m ρ c main_v1 = W2 m ρ c main_v1 := (W6_of m ρ c main_v1 (by decide)).trans ((W5_of m ρ c main_v1 (by decide)).trans
    ((W4_of m ρ c main_v1 (by decide)).trans (W3_of m ρ c main_v1 (by decide))))
  exact (congrFun e _).trans (ker_logits (W0 m ρ c) b k n)

/-- The offsets before the first kernel. -/
theorem w6_offsets (b : Fin 8) (d : Fin 4) (n : Fin 8732) :
    W6 m ρ c main_v3 (ix3 b d (Fin.castLE (by omega) n) : S8x4x8832.Idx) = offOf (kA0 m c) b n d := by
  have e : W6 m ρ c main_v3 = W4 m ρ c main_v3 := (W6_of m ρ c main_v3 (by decide)).trans (W5_of m ρ c main_v3 (by decide))
  have e0 : W2 m ρ c main_arg0 = kA0 m c := (W2_of m ρ c main_arg0 (by decide)).trans (W1_of m ρ c main_arg0 (by decide))
  exact (congrFun e _).trans ((ker_offsets (W2 m ρ c) b d n).trans (congrFun e0 _))

/-- The priors before the first kernel. -/
theorem w6_priors (d : Fin 4) (n : Fin 8732) :
    W6 m ρ c main_v5 (ix2 d (Fin.castLE (by omega) n) : S4x8832.Idx) = pbOf (kA2 m c) n d := by
  have e0 : W4 m ρ c main_arg2 = kA2 m c := (W4_of m ρ c main_arg2 (by decide)).trans ((W3_of m ρ c main_arg2 (by decide)).trans
    ((W2_of m ρ c main_arg2 (by decide)).trans (W1_of m ρ c main_arg2 (by decide))))
  exact (ker_priors (W4 m ρ c) d n).trans (congrFun e0 _)

/-- The first kernel's probabilities. -/
def padProb (b : Fin 8) (k : Fin 20) (n : Fin 8832) : EReal := probsOf (W6 m ρ c main_v1) (ix3 b k n)
/-- The first kernel's boxes. -/
def padBox (b : Fin 8) (n : Fin 8832) (d : Fin 4) : EReal := boxesOf (W6 m ρ c main_v3) (W6 m ρ c main_v5) (ix3 b d n)

theorem padProb_at (b : Fin 8) (k : Fin 20) (n : Fin 8732) : padProb m ρ c b k (Fin.castLE (by omega) n) = probs (clsOf (kA1 m c) b) k n := by
  refine (if_pos n.isLt).trans ?_
  exact congrArg (fun x => prob x k) (funext fun kk => w6_logits m ρ c b kk n)

theorem padProb_out (b : Fin 8) (k : Fin 20) (n : Fin 8832) (h : 8732 ≤ n.val) : padProb m ρ c b k n = 0 :=
  if_neg (Nat.not_lt.mpr h)

theorem boxesOf_at (X : S8x4x8832.Idx → EReal) (P : S4x8832.Idx → EReal) (b : Fin 8) (d : Fin 4) (n : Fin 8832) :
    boxesOf X P (ix3 b d n) = box (fun d => X (ix3 b d n)) (fun d => P (ix2 d n)) d := rfl

theorem padBox_at (b : Fin 8) (n : Fin 8732) (d : Fin 4) :
    padBox m ρ c b (Fin.castLE (by omega) n) d = box (offOf (kA0 m c) b n) (pbOf (kA2 m c) n) d := by
  have e1 : (fun d => W6 m ρ c main_v3 (ix3 b d (Fin.castLE (by omega) n) : S8x4x8832.Idx)) = offOf (kA0 m c) b n := funext fun d => w6_offsets m ρ c b d n
  have e2 : (fun d => W6 m ρ c main_v5 (ix2 d (Fin.castLE (by omega) n) : S4x8832.Idx)) = pbOf (kA2 m c) n := funext fun d => w6_priors m ρ c d n
  exact (boxesOf_at _ _ b d _).trans (congrFun (congr (congrArg box e1) e2) d)

/-- The place, among the lengthened probabilities, of class `k`'s candidate `r`. -/
def kSel (b : Fin 8) (k : Fin 20) (r : Fin 200) : Fin 8832 := ord (padProb m ρ c b k) (Fin.castLE (by omega) r)

theorem w7_probs : W7 m ρ c main_v6_0 = fun j : S8x20x8832.Idx => padProb m ρ c (j 0) (j 1) (j 2) := by
  refine ((W7_arr m ρ c 3).trans (arr0_probs (V6 m ρ) c)).trans ?_
  rfl

theorem w8_rows : W8 m ρ c main_v8 = fun j : S8x8832x4.Idx => padBox m ρ c (j 0) (j 1) (j 2) := by
  refine (ker_box_rows (W7 m ρ c)).trans ?_
  have e : W7 m ρ c main_v6_1 = boxesOf (W6 m ρ c main_v3) (W6 m ρ c main_v5) := (W7_arr m ρ c 4).trans (arr0_boxes (V6 m ρ) c)
  rw [e]
  rfl

/-- The candidates' scores before the second kernel. -/
theorem w10_scores : W10 m ρ c main_v14 = fun j : S8x20x200.Idx => padProb m ρ c (j 0) (j 1) (kSel m ρ c (j 0) (j 1) (j 2)) := by
  refine (ker_cand_scores (W9 m ρ c) (fun q r => padProb m ρ c (rb q) (rk q) (ord (padProb m ρ c (rb q) (rk q)) (Fin.castLE (show 200 ≤ 8832 by omega) r)))
    ((W9_of m ρ c main_values (by decide)).trans (ker_values (W7 m ρ c) (padProb m ρ c) (w7_probs m ρ c)))).trans ?_
  have h : ∀ (b : Fin 8) (k : Fin 20) (r : Fin 200), padProb m ρ c (rb (rowOf b k)) (rk (rowOf b k))
      (ord (padProb m ρ c (rb (rowOf b k)) (rk (rowOf b k))) (Fin.castLE (show 200 ≤ 8832 by omega) r)) = padProb m ρ c b k (kSel m ρ c b k r) := by
    intro b k r
    rw [rb_rowOf, rk_rowOf]
    rfl
  exact funext fun j => h (j 0) (j 1) (j 2)

/-- The candidates' boxes before the second kernel. -/
theorem w10_boxes : W10 m ρ c main_v12 = fun j : S8x20x200x4.Idx => padBox m ρ c (j 0) (kSel m ρ c (j 0) (j 1) (j 2)) (j 3) := by
  refine (ker_cand_boxes (W9 m ρ c) (fun b q d => padBox m ρ c b (ord (padProb m ρ c b (qc q)) (Fin.castLE (show 200 ≤ 8832 by omega) (qr q))) d)
    (ker_take (W8 m ρ c) (padBox m ρ c) (fun b q => ord (padProb m ρ c b (qc q)) (Fin.castLE (show 200 ≤ 8832 by omega) (qr q))) (w8_rows m ρ c)
      (ker_place_list (W7 m ρ c) (padProb m ρ c) (w7_probs m ρ c)))).trans ?_
  have h : ∀ (b : Fin 8) (k : Fin 20) (r : Fin 200) (d : Fin 4),
      padBox m ρ c b (ord (padProb m ρ c b (qc (fq k r))) (Fin.castLE (show 200 ≤ 8832 by omega) (qr (fq k r)))) d
        = padBox m ρ c b (kSel m ρ c b k r) d := by
    intro b k r d
    rw [qc_fq, qr_fq]
    rfl
  exact funext fun j => h (j 0) (j 1) (j 2) (j 3)

/-- What is kept of the candidates, and their scores and boxes, are as without the lengthening. -/
theorem kSel_kept (b : Fin 8) (k : Fin 20) (r : Fin 200) :
    padProb m ρ c b k (kSel m ρ c b k r) * fl (keepBit (fun r => padBox m ρ c b (kSel m ρ c b k r)) (fun r => padProb m ρ c b k (kSel m ρ c b k r)) r)
        = kscore (offOf (kA0 m c) b) (clsOf (kA1 m c) b) (pbOf (kA2 m c)) k r
      ∧ ∀ d, padBox m ρ c b (kSel m ρ c b k r) d
          * fl (keepBit (fun r => padBox m ρ c b (kSel m ρ c b k r)) (fun r => padProb m ρ c b k (kSel m ρ c b k r)) r)
        = kbox (offOf (kA0 m c) b) (clsOf (kA1 m c) b) (pbOf (kA2 m c)) k r d :=
  kept_pad (offOf (kA0 m c) b) (clsOf (kA1 m c) b) (pbOf (kA2 m c)) k (padProb m ρ c b k) (padBox m ρ c b) (padProb_at m ρ c b k)
    (padProb_out m ρ c b k) (fun n => funext fun d => padBox_at m ρ c b n d) (kSel m ρ c b k) (fun _ => rfl) r

end Cert.Own
-- ==== Proof.KerOut1.lean ====
module

public import proofs.«01_k».proof.Proof.KerOut0

/-! What the kernel's arrays hold from the candidates to the three results. -/

@[expose] public section

noncomputable section

open Idealize.ShloMosaic Idealize.ShloMosaic.StableHlo Idealize.ShloMosaic.TcCoe Cert.KernelIdeal Cert.KernelIdeal.Gen

namespace Cert.Own

variable {m : (ℓ : Loc Cert.KernelIdeal.nD Cert.KernelIdeal.τ Cert.KernelIdeal.sig) → Buf (Elt Ideal) ℓ} (ρ : Dev Cert.KernelIdeal.nD → PrngReg)
  {c : Dev Cert.KernelIdeal.nD}

/-- The scores after the second kernel. -/
theorem w11_scores : W11 m ρ c main_v15_0
    = fun j : S8x20x200.Idx => kscore (offOf (kA0 m c) (j 0)) (clsOf (kA1 m c) (j 0)) (pbOf (kA2 m c)) (j 1) (j 2) := by
  refine ((W11_arr m ρ c 3).trans (arr1 (V10 m ρ) c fun b k j d => ker_cand_boxes_t (W9 m ρ c) b k j d).1).trans ?_
  refine (congrArg (fun X => keptScores X (W10 m ρ c main_v14)) (w10_boxes m ρ c)).trans ?_
  refine (congrArg (keptScores _) (w10_scores m ρ c)).trans ?_
  exact funext fun j => (kSel_kept m ρ c (j 0) (j 1) (j 2)).1

/-- The boxes after the second kernel. -/
theorem w11_boxes : W11 m ρ c main_v15_1
    = fun j : S8x20x200x4.Idx => kbox (offOf (kA0 m c) (j 0)) (clsOf (kA1 m c) (j 0)) (pbOf (kA2 m c)) (j 1) (j 2) (j 3) := by
  refine ((W11_arr m ρ c 4).trans (arr1 (V10 m ρ) c fun b k j d => ker_cand_boxes_t (W9 m ρ c) b k j d).2).trans ?_
  refine (congrArg (fun X => keptBoxes X (W10 m ρ c main_v14)) (w10_boxes m ρ c)).trans ?_
  refine (congrArg (keptBoxes _) (w10_scores m ρ c)).trans ?_
  exact funext fun j => (kSel_kept m ρ c (j 0) (j 1) (j 2)).2 (j 3)

variable (m c) in
/-- The list of scores that the merge sorts. -/
def kFlat (b : Fin 8) : Fin 4000 → EReal := flat (offOf (kA0 m c) b) (clsOf (kA1 m c) b) (pbOf (kA2 m c))
variable (m c) in
/-- The places the merge finds. -/
def kTop (b : Fin 8) : Fin 200 → Fin 4000 := top (offOf (kA0 m c) b) (clsOf (kA1 m c) b) (pbOf (kA2 m c))

theorem kFlat_nonneg (b : Fin 8) (q : Fin 4000) : 0 ≤ kFlat m c b q :=
  flat_nonneg _ _ _ q

theorem w13_scores : W13 m ρ c main_v17 = fun y : S8x4096.Idx => longer (kFlat m c (y 0)) (y 1) :=
  ker_merge_in (W11 m ρ c) (fun b k r => kscore (offOf (kA0 m c) b) (clsOf (kA1 m c) b) (pbOf (kA2 m c)) k r) (w11_scores ρ)

theorem minus_one : Ideal.ofBits .f32 0xBF800000#32 = ((-1 : ℝ) : EReal) := by
  simp [Ideal.ofBits, Ideal.ieee, -EReal.coe_mul, -EReal.coe_neg]; norm_num

theorem minus_two : Ideal.ofBits .f32 0xC0000000#32 = ((-2 : ℝ) : EReal) := by
  simp [Ideal.ofBits, Ideal.ieee, -EReal.coe_mul, -EReal.coe_neg]; norm_num

theorem longer_at (x : Fin 4000 → EReal) (q : Fin 4000) : longer x (Fin.castLE (by omega) q) = x q := dif_pos q.isLt

theorem longer_above (x : Fin 4000 → EReal) (hx : ∀ q, 0 ≤ x q) (j : Fin 4096) : Ideal.ofBits .f32 0xC0000000#32 < longer x j := by
  rw [minus_two]
  unfold longer
  split
  · refine lt_of_lt_of_le ?_ (hx _)
    rw [← EReal.coe_zero]
    exact EReal.coe_lt_coe_iff.mpr (by norm_num)
  · rw [minus_one]
    exact EReal.coe_lt_coe_iff.mpr (by norm_num)

/-- The lengthened list sorts as the list. -/
theorem longer_ord (x : Fin 4000 → EReal) (hx : ∀ q, 0 ≤ x q) (r : Fin 200) :
    ord (longer x) (Fin.castLE (show 200 ≤ 4096 by omega) r) = Fin.castLE (by omega) (ord x (Fin.castLE (show 200 ≤ 4000 by omega) r)) := by
  refine ord_pad (show 4000 ≤ 4096 by omega) x (longer x) (longer_at x) (Fin.castLE (show 200 ≤ 4000 by omega) r) (fun j hj => ?_)
  rw [longer, dif_neg (Nat.not_lt.mpr hj), minus_one]
  refine le_trans ?_ (hx _)
  rw [← EReal.coe_zero]
  exact EReal.coe_le_coe_iff.mpr (by norm_num)

theorem w14_merge :
    W14 m ρ c main_v18_0 = mergedVal (fun b => longer (kFlat m c b)) 200 ∧ W14 m ρ c main_v18_1 = mergedPos (fun b => longer (kFlat m c b)) 200 := by
  have h := arr2 (V13 m ρ) c (fun b => longer (kFlat m c b)) (fun b j => longer_above _ (kFlat_nonneg b) j) (w13_scores ρ)
  exact ⟨(W14_arr m ρ c 1).trans h.1, (W14_arr m ρ c 2).trans h.2⟩

/-- The merge's scores. -/
theorem w14_scores : W14 m ρ c main_v18_0 = fun j : S8x200.Idx => kFlat m c (j 0) (kTop m c (j 0) (j 1)) := by
  refine (w14_merge ρ).1.trans ?_
  have h : ∀ (b : Fin 8) (r : Fin 200), (if r.val < 200 then longer (kFlat m c b) (ord (longer (kFlat m c b)) (Fin.castLE (show 200 ≤ 4096 by omega) r)) else 0)
      = kFlat m c b (kTop m c b r) := by
    intro b r
    rw [if_pos r.isLt, longer_ord _ (kFlat_nonneg b), longer_at]
    rfl
  exact funext fun j => h (j 0) (j 1)

/-- The merge's places. -/
theorem w14_places : W14 m ρ c main_v18_1 = fun j : S8x200.Idx => BitVec.ofNat 32 (kTop m c (j 0) (j 1)).val := by
  refine (w14_merge ρ).2.trans ?_
  have h : ∀ (b : Fin 8) (r : Fin 200), (if r.val < 200 then BitVec.ofNat 32 (ord (longer (kFlat m c b)) (Fin.castLE (show 200 ≤ 4096 by omega) r)).val else 0#32)
      = BitVec.ofNat 32 (kTop m c b r).val := by
    intro b r
    have e : kTop m c b r = ord (kFlat m c b) (Fin.castLE (show 200 ≤ 4000 by omega) r) := rfl
    rw [if_pos r.isLt, longer_ord _ (kFlat_nonneg b), e, Fin.val_castLE]
  exact funext fun j => h (j 0) (j 1)

/-- The scores returned. -/
theorem w19_scores : W19 m ρ c main_v18_0 = outScore (kA0 m c) (kA1 m c) (kA2 m c) := by
  refine ((W19_of m ρ c main_v18_0 (by decide)).trans ((W18_of m ρ c main_v18_0 (by decide)).trans ((W17_of m ρ c main_v18_0 (by decide)).trans
    ((W16_of m ρ c main_v18_0 (by decide)).trans (W15_of m ρ c main_v18_0 (by decide)))))).trans ((w14_scores ρ).trans ?_)
  rfl

/-- The boxes returned. -/
theorem w19_boxes : W19 m ρ c main_v21 = outBox (kA0 m c) (kA1 m c) (kA2 m c) := by
  refine ((W19_of m ρ c main_v21 (by decide)).trans ((W18_of m ρ c main_v21 (by decide)).trans (W17_of m ρ c main_v21 (by decide)))).trans ?_
  have e : W14 m ρ c main_v15_1 = W11 m ρ c main_v15_1 := (W14_of_ne m ρ c main_v15_1 (by decide)).trans
    ((W13_of m ρ c main_v15_1 (by decide)).trans (W12_of m ρ c main_v15_1 (by decide)))
  refine (ker_take_boxes (W15 m ρ c) (fun b q d => kbox (offOf (kA0 m c) b) (clsOf (kA1 m c) b) (pbOf (kA2 m c)) (qc q) (qr q) d) (kTop m c)
    (ker_box_list (W14 m ρ c) (fun b k r d => kbox (offOf (kA0 m c) b) (clsOf (kA1 m c) b) (pbOf (kA2 m c)) k r d) (e.trans (w11_boxes ρ)))
    (ker_place1 (W14 m ρ c) (fun b r => (kTop m c b r).val) (w14_places ρ))).trans ?_
  rfl

/-- The labels returned. -/
theorem w19_labels : W19 m ρ c main_v28 = outLabel (kA0 m c) (kA1 m c) (kA2 m c) := by
  have e0 : W18 m ρ c main_v18_0 = W14 m ρ c main_v18_0 := (W18_of m ρ c main_v18_0 (by decide)).trans ((W17_of m ρ c main_v18_0 (by decide)).trans
    ((W16_of m ρ c main_v18_0 (by decide)).trans (W15_of m ρ c main_v18_0 (by decide))))
  have e1 : W16 m ρ c main_v18_1 = W14 m ρ c main_v18_1 := (W16_of m ρ c main_v18_1 (by decide)).trans (W15_of m ρ c main_v18_1 (by decide))
  refine (ker_label (W18 m ρ c) (fun b r => kFlat m c b (kTop m c b r)) (fun b r => (kTop m c b r).val / 200) (e0.trans (w14_scores ρ))
    (ker_class (W16 m ρ c) (kTop m c) (e1.trans (w14_places ρ)))).trans ?_
  rfl

end Cert.Own
-- ==== Proof.KerRun.lean ====
module

public import proofs.«01_k».proof.Proof.KerOut1

/-! What the kernel computes: its three results at the end of every execution. -/

@[expose] public section

set_option maxRecDepth 16384

noncomputable section

open Idealize.ShloMosaic Idealize.ShloMosaic.TcCoe Idealize.ShloMosaic.Tactic Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

namespace Cert.Own

variable (m : (ℓ : Loc Cert.KernelIdeal.nD Cert.KernelIdeal.τ Cert.KernelIdeal.sig) → Buf (Elt Ideal) ℓ) (ρ : Dev Cert.KernelIdeal.nD → PrngReg)

-- the launch's implicit arguments are found by unifying its conclusion with this one
set_option backward.isDefEq.respectTransparency.types false in
/-- Every execution of the kernel ends with the three results of the plain statement, its arguments unchanged
    and every counter at zero. -/
theorem kernel_run : θ_run (defs (F := Ideal)) (onTc (τ := τ) (main (F := Ideal))) ⟨m, fun _ => 0, ρ⟩ (fun r => (∀ c : Dev nD,
      r.2.mem ((c.tc : Thread nD τ).loc main_v21) = outBox (kA0 m c) (kA1 m c) (kA2 m c)
      ∧ r.2.mem ((c.tc : Thread nD τ).loc main_v18_0) = outScore (kA0 m c) (kA1 m c) (kA2 m c)
      ∧ r.2.mem ((c.tc : Thread nD τ).loc main_v28) = outLabel (kA0 m c) (kA1 m c) (kA2 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt Ideal) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt Ideal) ℕ (UR sig nD τ) ℕ)) ⊢ bigSep Finset.univ (fun _ : Dev nD => (BI.emp : sProp (MT nD τ sig Unit (Elt Ideal) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W19 m ρ c b)
    (hfin := fun c s' => by
      iintro ⟨⟨Hh, -⟩, HSI⟩
      unfold StableHlo.held
      imodintro
      iapply (pointsTo_read_all (Pipeline.ucRefs τ sig) (fun b => (((c : Thread nD τ)).1, b)) (W19 m ρ c) s')
      isplitl [Hh] <;> iassumption)
    (hQ := fun s h hz => ⟨(fun c =>
      ⟨(h c _ (mem_uc main_v21 (by decide))).trans (w19_boxes ρ),
       (h c _ (mem_uc main_v18_0 (by decide))).trans (w19_scores ρ),
       (h c _ (mem_uc main_v28 (by decide))).trans (w19_labels ρ),
       (h c _ (mem_uc main_arg0 (by decide))).trans (W19_main_arg0 m ρ c),
       (h c _ (mem_uc main_arg1 (by decide))).trans (W19_main_arg1 m ρ c),
       (h c _ (mem_uc main_arg2 (by decide))).trans (W19_main_arg2 m ρ c)⟩), funext fun g => hz g (.inr (no_unscoped g.2))⟩)

end Cert.Own
-- ==== Proof.RefIou.lean ====
module

public import proofs.«01_k».proof.Proof.Casts
public import proofs.«01_k».proof.Proof.Take
public import proofs.«01_k».proof.Proof.Gen.ReferenceIdeal.Run

/-! The reference's overlaps. -/

@[expose] public section

noncomputable section

open Idealize.ShloMosaic Idealize.ShloMosaic.StableHlo Cert.ReferenceIdeal Cert.ReferenceIdeal.Gen Cert.ReferenceIdeal.Value
open Idealize.ShloMosaic.TcCoe

namespace Cert.Own

set_option maxHeartbeats 4000000 in
set_option maxRecDepth 100000 in
theorem ref_iou (V : Valuation Cert.ReferenceIdeal.τ Cert.ReferenceIdeal.sig (Elt Ideal)) (B : Fin 8 → Fin 20 → Fin 200 → Fin 4 → EReal)
    (h : V main_v41 = fun j : S8x20x200x4.Idx => B (j 0) (j 1) (j 2) (j 3)) :
    after hostOps0_2 V main_v97_0 = fun j : S8x20x200x200.Idx => iou (B (j 0) (j 1) (j 2)) (B (j 0) (j 1) (j 3)) := by
  after_reads_simp
  have c60 : ∀ (x : S8x20x200x200x1.Idx → EReal) h, shapeCast main_v60.ty.shape x h = fun j : S8x20x200x200.Idx => x (ValueIdx.ix5 (j 0) (j 1) (j 2) (j 3) 0) :=
    cast_8_20_200_200_1_to_8_20_200_200
  have c62 : ∀ (x : S8x20x200x200x1.Idx → EReal) h, shapeCast main_v62.ty.shape x h = fun j : S8x20x200x200.Idx => x (ValueIdx.ix5 (j 0) (j 1) (j 2) (j 3) 0) :=
    cast_8_20_200_200_1_to_8_20_200_200
  have c65 : ∀ (x : S8x20x200x1.Idx → EReal) h, shapeCast main_v65.ty.shape x h = fun j : S8x20x200.Idx => x (ValueIdx.ix4 (j 0) (j 1) (j 2) 0) :=
    cast_8_20_200_1_to_8_20_200
  have c67 : ∀ (x : S8x20x200x1.Idx → EReal) h, shapeCast main_v67.ty.shape x h = fun j : S8x20x200.Idx => x (ValueIdx.ix4 (j 0) (j 1) (j 2) 0) := c65
  have c70 : ∀ (x : S8x20x200x1.Idx → EReal) h, shapeCast main_v70.ty.shape x h = fun j : S8x20x200.Idx => x (ValueIdx.ix4 (j 0) (j 1) (j 2) 0) := c65
  have c72 : ∀ (x : S8x20x200x1.Idx → EReal) h, shapeCast main_v72.ty.shape x h = fun j : S8x20x200.Idx => x (ValueIdx.ix4 (j 0) (j 1) (j 2) 0) := c65
  have c76 : ∀ (x : S8x20x200x1.Idx → EReal) h, shapeCast main_v76.ty.shape x h = fun j : S8x20x200.Idx => x (ValueIdx.ix4 (j 0) (j 1) (j 2) 0) := c65
  have c78 : ∀ (x : S8x20x200x1.Idx → EReal) h, shapeCast main_v78.ty.shape x h = fun j : S8x20x200.Idx => x (ValueIdx.ix4 (j 0) (j 1) (j 2) 0) := c65
  have c81 : ∀ (x : S8x20x200x1.Idx → EReal) h, shapeCast main_v81.ty.shape x h = fun j : S8x20x200.Idx => x (ValueIdx.ix4 (j 0) (j 1) (j 2) 0) := c65
  have c83 : ∀ (x : S8x20x200x1.Idx → EReal) h, shapeCast main_v83.ty.shape x h = fun j : S8x20x200.Idx => x (ValueIdx.ix4 (j 0) (j 1) (j 2) 0) := c65
  simp only [c60, c62, c65, c67, c70, c72, c76, c78, c81, c83, slice4_last, slice5_last, Nat.reduceAdd, Nat.reduceLeDiff, le_refl]
  funext j
  have e : ∀ i k, iou (B (j 0) (j 1) i) (B (j 0) (j 1) k)
      = iou (fun d => V main_v41 (ValueIdx.ix4 (j 0) (j 1) i d)) (fun d => V main_v41 (ValueIdx.ix4 (j 0) (j 1) k d)) := by
    intro i k; rw [h]
  refine Eq.trans ?_ (e (j 2) (j 3)).symm
  rfl

end Cert.Own
-- ==== Proof.RefTake.lean ====
module

public import proofs.«01_k».proof.Proof.Casts
public import proofs.«01_k».proof.Proof.Take
public import proofs.«01_k».proof.Proof.Gen.ReferenceIdeal.Run

/-! The reference's candidates' boxes. -/

@[expose] public section

noncomputable section

open Idealize.ShloMosaic Idealize.ShloMosaic.StableHlo Cert.ReferenceIdeal Cert.ReferenceIdeal.Gen Cert.ReferenceIdeal.Value
open Idealize.ShloMosaic.TcCoe Idealize.ShloMosaic.ValueIdx

namespace Cert.Own

set_option maxHeartbeats 4000000 in
set_option maxRecDepth 100000 in
/-- The boxes read at the candidates' priors. -/
theorem ref_take (V : Valuation Cert.ReferenceIdeal.τ Cert.ReferenceIdeal.sig (Elt Ideal)) (x : Fin 8 → Fin 8732 → Fin 4 → EReal)
    (n : Fin 8 → Fin 20 → Fin 200 → Fin 8732)
    (h : V main_v39 = fun j : S8x1x8732x4.Idx => x (j 0) (j 2) (j 3))
    (hn : V main_v40 = fun j : S8x20x200x1.Idx => BitVec.ofNat 32 (n (j 0) (j 1) (j 2)).val) :
    after hostOps0_1 V main_v41 = fun j : S8x20x200x4.Idx => x (j 0) (n (j 0) (j 1) (j 2)) (j 3) := by
  after_reads_simp
  rw [h, hn]
  have hw := wrap_words (s := S8x20x200x1) (fun j => (n (j 0) (j 1) (j 2)).val) (fun j => by have := (n (j 0) (j 1) (j 2)).isLt; omega)
    (broadcastInDim S8x20x200x1 ![] bcast_S_S8x20x200x1 (constantI S_ 32 0#32))
    (addi (fun j => BitVec.ofNat 32 (n (j 0) (j 1) (j 2)).val) (broadcastInDim S8x20x200x1 ![] bcast_S_S8x20x200x1 (constantI S_ 32 8732#32))) (fun _ => rfl)
  erw [hw]
  erw [reduce_ones _ _ _ _ (mask_words (s := S8x20x200x1) (fun j => (n (j 0) (j 1) (j 2)).val) 8731 (fun j => by have := (n (j 0) (j 1) (j 2)).isLt; omega)
    (by omega) _ _ (fun _ => rfl) (fun _ => rfl)) (fun _ => rfl)]
  have hc : (fun i => shapeCast main_call0_v5.ty.shape (fun j : S8x1x8732x4.Idx => x (j 0) (j 2) (j 3)) shapeCasts_S8x1x8732x4_S8x8732x4 i)
      = fun j : S8x8732x4.Idx => x (j 0) (j 1) (j 2) := cast_8_1_8732_4_to_8_8732_4 _ _
  erw [hc]
  refine Eq.trans ?_ (gather4 gather_S8x8732x4_S8x20x200x1_S8x20x200x4_3_1_0_0_1_3_114_wf x n (by omega))
  funext j
  rfl

end Cert.Own
-- ==== Proof.RefPre.lean ====
module

public import proofs.«01_k».proof.Proof.Casts
public import proofs.«01_k».proof.Proof.Take
public import proofs.«01_k».proof.Proof.Gen.ReferenceIdeal.Run

/-! The reference's class probabilities, boxes and candidates. -/

@[expose] public section

noncomputable section

open Idealize.ShloMosaic Idealize.ShloMosaic.StableHlo Cert.ReferenceIdeal Cert.ReferenceIdeal.Gen Cert.ReferenceIdeal.Value
open Idealize.ShloMosaic.TcCoe Idealize.ShloMosaic.ValueIdx

namespace Cert.Own

abbrev RV := Valuation Cert.ReferenceIdeal.τ Cert.ReferenceIdeal.sig (Elt Ideal)

/-- The largest of the 21 scores, as the reference takes it. -/
theorem ref_max (X : S8x8732x21.Idx → EReal) :
    maximumf (F := Ideal) (broadcastInDim S8x8732 ![] bcast_S_S8x8732 (constant S_ .f32 0xFF800000#32))
      (Host.reduce (FloatOps.maximumf (F := Ideal) (φ := .f32)) X (constant S_ .f32 0xFF800000#32) reducesTo_S8x8732x21_S8x8732_d2 h_S_)
      = fun j : S8x8732.Idx => Finset.univ.sup fun k => X (ix3 (j 0) (j 1) k) := by
  have hb : Ideal.ofBits .f32 0xFF800000#32 = ⊥ := by simp [Ideal.ofBits, Ideal.ieee]
  funext j
  rw [maximumf_apply, Host.reduce_eq_fold_single _ _ _ _ (by decide)]
  change max (Ideal.ofBits .f32 0xFF800000#32) (Finset.univ.fold max (Ideal.ofBits .f32 0xFF800000#32) _) = _
  rw [hb, bot_sup_eq]
  refine Finset.fold_congr fun k _ => congrArg X (funext fun a => ?_)
  fin_cases a <;> rfl

/-- Classes before priors. -/
theorem ref_transpose (X : S8x8732x20.Idx → EReal) :
    transpose S8x20x8732 [0, 2, 1] X transposes_S8x8732x20_S8x20x8732_0_2_1 = fun j : S8x20x8732.Idx => X (ix3 (j 0) (j 2) (j 1)) := by
  funext j
  refine congrArg X (funext fun a => ?_)
  fin_cases a <;> rfl

/-- The sum of 21 entries, as the reference takes it. -/
theorem ref_sum (Y : S8x8732x21.Idx → EReal) :
    Host.reduceAdd (F := Ideal) Y (constant S_ .f32 0x00000000#32) reducesTo_S8x8732x21_S8x8732_d2 h_S_
      = fun j : S8x8732.Idx => ∑ k, Y (ix3 (j 0) (j 1) k) := by
  funext j
  rw [hostReduceAdd_apply, Ideal.hostReduceAdd_single _ (by decide)]
  change Ideal.ofBits .f32 0x00000000#32 + _ = _
  rw [Ideal.ofBits_zero_f32, zero_add]
  refine Finset.sum_congr rfl fun k _ => congrArg Y (funext fun a => ?_)
  fin_cases a <;> rfl

set_option maxHeartbeats 4000000 in
set_option maxRecDepth 100000 in
/-- The class probabilities. -/
theorem ref_probs (V : RV) (cls : Fin 8 → Fin 8732 → Fin 21 → EReal)
    (h : V main_arg1 = fun j : S8x8732x21.Idx => cls (j 0) (j 1) (j 2)) :
    after hostOps0 V main_v38 = fun j : S8x20x8732.Idx => probs (cls (j 0)) (j 1) (j 2) := by
  have e : (fun j : S8x20x8732.Idx => probs (cls (j 0)) (j 1) (j 2))
      = fun j : S8x20x8732.Idx => prob (fun k => V main_arg1 (ix3 (j 0) (j 2) k)) (j 1) := by rw [h]; rfl
  rw [e]
  generalize hR : (fun j : S8x20x8732.Idx => prob (fun k => V main_arg1 (ix3 (j 0) (j 2) k)) (j 1)) = R
  after_reads_simp
  rw [ref_max, ref_sum, ref_transpose, slice3_last _ _ (by decide)]
  rw [← hR]
  funext j
  rfl

/-- Two pairs of columns side by side. -/
def sideBySide (X Y : S8x8732x2.Idx → EReal) : S8x8732x4.Idx → EReal :=
  concatenate S8x8732x4 2 [⟨S8x8732x2, X⟩, ⟨S8x8732x2, Y⟩] concatenates_S8x8732x2_S8x8732x2_S8x8732x4_d2

set_option maxHeartbeats 4000000 in
set_option maxRecDepth 100000 in
/-- The boxes. -/
theorem ref_box (V : RV) (off : Fin 8 → Fin 8732 → Fin 4 → EReal) (pb : Fin 8732 → Fin 4 → EReal)
    (h0 : V main_arg0 = fun j : S8x8732x4.Idx => off (j 0) (j 1) (j 2)) (h2 : V main_arg2 = fun j : S8732x4.Idx => pb (j 0) (j 1)) :
    after hostOps0 V main_v39 = fun j : S8x1x8732x4.Idx => box (off (j 0) (j 2)) (pb (j 2)) (j 3) := by
  generalize hR : (fun j : S8x1x8732x4.Idx => box (off (j 0) (j 2)) (pb (j 2)) (j 3)) = R
  have hc : ∀ X Y, concatenate S8x8732x4 2 [⟨S8x8732x2, X⟩, ⟨S8x8732x2, Y⟩] concatenates_S8x8732x2_S8x8732x2_S8x8732x4_d2
      = sideBySide X Y := fun _ _ => rfl
  after_reads_simp
  rw [hc]
  after_reads_simp
  simp only [slice3_last, slice2_last, Nat.reduceAdd, Nat.reduceLeDiff, le_refl]
  rw [← hR, h0, h2]
  funext j
  have e : j = ix4 (j 0) 0 (j 2) (j 3) := by
    funext a; fin_cases a
    · rfl
    · exact Subsingleton.elim (α := Fin 1) _ _
    · rfl
    · rfl
  rw [e]
  generalize j 0 = b
  generalize j 2 = n
  generalize j 3 = d
  change Fin 4 at d
  fin_cases d
  · rfl
  · rfl
  · rfl
  · rfl

set_option maxHeartbeats 4000000 in
set_option maxRecDepth 100000 in
/-- The candidates' probabilities. -/
theorem ref_values (V : RV) (cls : Fin 8 → Fin 8732 → Fin 21 → EReal)
    (h : V main_arg1 = fun j : S8x8732x21.Idx => cls (j 0) (j 1) (j 2)) :
    after hostOps0 V main_values = fun j : S8x20x200.Idx => cval (cls (j 0)) (j 1) (j 2) := by
  have e : after hostOps0 V main_values
      = (Host.topK S8x20x200 2 (FloatOps.cmpfTotal (F := Ideal) (φ := .f32) .gt) (after hostOps0 V main_v38) sliceFits_S8x20x8732_S8x20x200).1 := by
    after_reads_simp
  rw [e, ref_probs V cls h]
  exact topK3_values (fun b k n => probs (cls b) k n) (by omega) _

set_option maxHeartbeats 4000000 in
set_option maxRecDepth 100000 in
/-- The candidates' priors. -/
theorem ref_indices (V : RV) (cls : Fin 8 → Fin 8732 → Fin 21 → EReal)
    (h : V main_arg1 = fun j : S8x8732x21.Idx => cls (j 0) (j 1) (j 2)) :
    after hostOps0 V main_v40 = fun j : S8x20x200x1.Idx => BitVec.ofNat 32 (cidx (cls (j 0)) (j 1) (j 2)).val := by
  have e : after hostOps0 V main_v40
      = broadcastInDim S8x20x200x1 ![0, 1, 2] bcast_S8x20x200_S8x20x200x1_0_1_2
        (Host.topK S8x20x200 2 (FloatOps.cmpfTotal (F := Ideal) (φ := .f32) .gt) (after hostOps0 V main_v38) sliceFits_S8x20x8732_S8x20x200).2 := by
    after_reads_simp
  rw [e, ref_probs V cls h]
  refine (congrArg _ (topK3_indices (fun b k n => probs (cls b) k n) (by omega) _)).trans ?_
  funext j
  rfl

end Cert.Own
-- ==== Proof.RefLoop.lean ====
module

public import proofs.«01_k».proof.Proof.RefPre

/-! The reference's suppression loop. -/

@[expose] public section

noncomputable section

open Idealize.ShloMosaic Idealize.ShloMosaic.StableHlo Cert.ReferenceIdeal Cert.ReferenceIdeal.Gen Cert.ReferenceIdeal.Value
open Idealize.ShloMosaic.TcCoe Idealize.ShloMosaic.ValueIdx

namespace Cert.Own

theorem ori_ofBool (a b : Bool) : IntOp.ori (BitVec.ofBool a) (BitVec.ofBool b) = BitVec.ofBool (a || b) := by
  cases a <;> cases b <;> rfl
theorem andi_ofBool (a b : Bool) : IntOp.andi (BitVec.ofBool a) (BitVec.ofBool b) = BitVec.ofBool (a && b) := by
  cases a <;> cases b <;> rfl
theorem select_ofBool {α : Type} (a : Bool) (x y : α) : Scalar.select (BitVec.ofBool a) x y = if a then x else y := by
  cases a <;> rfl

/-- Small words differ as their numbers. -/
theorem ne_ofNat {a b : Nat} (ha : a < 2 ^ 31) (hb : b < 2 ^ 31) :
    IntOp.cmpi .ne (BitVec.ofNat 32 a) (BitVec.ofNat 32 b) = BitVec.ofBool (decide (a ≠ b)) := by
  have : (BitVec.ofNat 32 a != BitVec.ofNat 32 b) = decide (a ≠ b) := by
    rw [bne, Bool.eq_iff_iff]
    simp only [Bool.not_eq_true', beq_eq_false_iff_ne, ne_eq, decide_eq_true_eq]
    refine not_congr ⟨fun h => ?_, fun h => by rw [h]⟩
    have := congrArg BitVec.toInt h
    rw [toInt_small ha, toInt_small hb] at this
    omega
  simp only [IntOp.cmpi, this]

/-- A slice of one place along the last of three axes, at a start in range. -/
theorem dyn3 {α : Type} (x : S8x20x200.Idx → α) (st : Fin 3 → Int) (k : Fin 200) (h) (h0 : st 0 = 0) (h1 : st 1 = 0) (h2 : st 2 = (k.val : Int)) :
    Host.dynamicSlice S8x20x1 x st h = fun j => x (ix3 (j 0) (j 1) k) := by
  funext j
  refine congrArg x (funext fun a => Fin.ext ?_)
  fin_cases a
  · change (min (max (st 0) 0) _).toNat + (j 0).val = (j 0).val
    rw [h0]; simp
  · change (min (max (st 1) 0) _).toNat + (j 1).val = (j 1).val
    rw [h1]; simp
  · have hj : (j 2).val < 1 := (j 2).isLt
    change (min (max (st 2) 0) (((200 - 1 : Nat) : Int))).toNat + (j 2).val = k.val
    rw [h2]; omega

/-- The same along the third of four axes. -/
theorem dyn4 {α : Type} (x : S8x20x200x200.Idx → α) (st : Fin 4 → Int) (k : Fin 200) (h) (h0 : st 0 = 0) (h1 : st 1 = 0) (h2 : st 2 = (k.val : Int))
    (h3 : st 3 = 0) :
    Host.dynamicSlice S8x20x1x200 x st h = fun j => x (ix4 (j 0) (j 1) k (j 3)) := by
  funext j
  refine congrArg x (funext fun a => Fin.ext ?_)
  fin_cases a
  · change (min (max (st 0) 0) _).toNat + (j 0).val = (j 0).val
    rw [h0]; simp
  · change (min (max (st 1) 0) _).toNat + (j 1).val = (j 1).val
    rw [h1]; simp
  · have hj : (j 2).val < 1 := (j 2).isLt
    change (min (max (st 2) 0) (((200 - 1 : Nat) : Int))).toNat + (j 2).val = k.val
    rw [h2]; omega
  · change (min (max (st 3) 0) _).toNat + (j 3).val = (j 3).val
    rw [h3]; simp

open Classical in
/-- The loop's state before step `k`, the overlaps being `G`. -/
structure RefState (G : Fin 8 → Fin 20 → Fin 200 → Fin 200 → EReal) (k : Nat) (V : RV) : Prop where
  iou : V main_v97_0 = fun j : S8x20x200x200.Idx => G (j 0) (j 1) (j 2) (j 3)
  col : V main_v97_1 = fun j : S1x1x200.Idx => BitVec.ofNat 32 (j 2).val
  ctr : V main_v97_3 = fun _ : S_.Idx => BitVec.ofNat 32 k
  sup : V main_v97_4 = fun j : S8x20x200.Idx =>
    BitVec.ofBool (supAfter (fun i l => decide (Ideal.ofBits .f32 0x3EE66666#32 < G (j 0) (j 1) i l)) k (j 2))

open Classical in
/-- One step of the loop. -/
theorem RefState.step {G : Fin 8 → Fin 20 → Fin 200 → Fin 200 → EReal} {k : Nat} {V : RV} (hk : k < 200) (h : RefState G k V) :
    RefState G (k + 1) (STEP V) := by
  refine ⟨?_, ?_, ?_, ?_⟩
  · rw [STEP_main_v97_0]; exact h.iou
  · rw [STEP_main_v97_1]; exact h.col
  · rw [STEP_main_v97_3]; unfold step_main_v97_3; rw [h.ctr]
    funext j
    change BitVec.ofNat 32 k + 1#32 = _
    rw [← BitVec.ofNat_add]
  · rw [STEP_main_v97_4]; unfold step_main_v97_4
    have hw : select (cmpi .slt (V main_v97_3) (constantI S_ 32 0#32)) (addi (id (V main_v97_3)) (constantI S_ 32 200#32)) (V main_v97_3)
        = fun _ : S_.Idx => BitVec.ofNat 32 k := by
      rw [h.ctr]
      exact wrap_words (s := S_) (fun _ => k) (fun _ => by omega) _ _ (fun _ => rfl)
    rw [hw]
    have hki : (BitVec.ofNat 32 k).toInt = ((⟨k, hk⟩ : Fin 200).val : Int) := toInt_small (by omega)
    rw [dyn3 _ _ ⟨k, hk⟩ _ rfl rfl hki, dyn4 _ _ ⟨k, hk⟩ _ rfl rfl hki rfl, cast_8_20_1_200_to_8_20_200]
    rw [h.iou, h.col, h.ctr, h.sup]
    funext j
    change Scalar.select (BitVec.ofBool _) (BitVec.ofBool _)
      (IntOp.andi (IntOp.ori (BitVec.ofBool _) (BitVec.ofBool _)) (IntOp.cmpi .ne (BitVec.ofNat 32 (j 2).val) (BitVec.ofNat 32 k))) = _
    have hj : (j 2).val < 200 := (j 2).isLt
    rw [ne_ofNat (by omega) (by omega), ori_ofBool, andi_ofBool, select_ofBool]
    rw [supAfter, dif_pos hk]
    unfold supStep
    have hd : decide ((j 2).val ≠ k) = decide ((j 2 : Fin 200) ≠ ⟨k, hk⟩) := by
      rw [decide_eq_decide]; exact not_congr ⟨fun h => Fin.ext h, fun h => congrArg Fin.val h⟩
    rw [hd]
    split
    · rename_i hs; exact congrArg BitVec.ofBool (if_pos hs).symm
    · rename_i hs; exact congrArg BitVec.ofBool (if_neg hs).symm

/-- The state before step `k`. -/
theorem RefState.iter {G : Fin 8 → Fin 20 → Fin 200 → Fin 200 → EReal} {V : RV} (h : RefState G 0 V) :
    ∀ k, k ≤ 200 → RefState G k (STEP^[k] V)
  | 0, _ => h
  | k + 1, hk => by rw [Function.iterate_succ_apply']; exact (RefState.iter h k (by omega)).step (by omega)

/-- What the loop's body does not write it keeps. -/
theorem ref_keep (m : (ℓ : Loc Cert.ReferenceIdeal.nD Cert.ReferenceIdeal.τ Cert.ReferenceIdeal.sig) → Buf (Elt Ideal) ℓ) (c : Dev Cert.ReferenceIdeal.nD)
    (r : Ref Cert.ReferenceIdeal.sig .tc) (h0 : r ∉ trip_w0_W) (h1 : r ∉ trip_w1_W) (h2 : r ∉ trip_w2_W) (h3 : r ∉ trip_w3_W) (h4 : r ∉ trip_w4_W)
    (hb : ∀ V : RV, afterL bodyI V r = val5 V r) (hc : r ∉ condOps_W) : ∀ k, atK m k c r = entryContents preI m c r
  | 0 => rfl
  | k + 1 => by
    refine (hb _).trans ?_
    rw [val5_keep _ r h4, val4_keep _ r h3, val3_keep _ r h2, val2_keep _ r h1, val1_keep _ r h0]
    exact (after_of_writes_sub condOps _ condOps_writes hc).trans (ref_keep m c r h0 h1 h2 h3 h4 hb hc k)

end Cert.Own
-- ==== Proof.RefPost.lean ====
module

public import proofs.«01_k».proof.Proof.RefLoop

/-! The reference's merge of the classes, from its state after the loop. -/

@[expose] public section

noncomputable section

open Idealize.ShloMosaic Idealize.ShloMosaic.StableHlo Cert.ReferenceIdeal Cert.ReferenceIdeal.Gen Cert.ReferenceIdeal.Value
open Idealize.ShloMosaic.TcCoe Idealize.ShloMosaic.ValueIdx

namespace Cert.Own

/-- The buffers after the merge's sort. -/
abbrev merged (V : RV) : RV := after hostOps0_7 (after hostOps0_6 (after hostOps0_5 (after hostOps0_4 (after hostOps0_3 V))))

/-- The candidates' state after the loop: probabilities `v`, boxes `B`, suppression `s`. -/
structure RefCands (v : Fin 8 → Fin 20 → Fin 200 → EReal) (B : Fin 8 → Fin 20 → Fin 200 → Fin 4 → EReal) (s : Fin 8 → Fin 20 → Fin 200 → Bool)
    (V : RV) : Prop where
  val : V main_values = fun j : S8x20x200.Idx => v (j 0) (j 1) (j 2)
  box : V main_v41 = fun j : S8x20x200x4.Idx => B (j 0) (j 1) (j 2) (j 3)
  sup : V main_v97_4 = fun j : S8x20x200.Idx => BitVec.ofBool (s (j 0) (j 1) (j 2))

open Classical in
/-- Which candidates are kept. -/
def kept (v : Fin 8 → Fin 20 → Fin 200 → EReal) (s : Fin 8 → Fin 20 → Fin 200 → Bool) (b : Fin 8) (k : Fin 20) (r : Fin 200) : Bool :=
  !(s b k r) && decide (Ideal.ofBits .f32 0x3C23D70A#32 < v b k r)

/-- The kept candidates' probabilities, zero for the others. -/
def keptScore (v : Fin 8 → Fin 20 → Fin 200 → EReal) (s : Fin 8 → Fin 20 → Fin 200 → Bool) (b : Fin 8) (k : Fin 20) (r : Fin 200) : EReal :=
  if kept v s b k r then v b k r else 0

variable {v : Fin 8 → Fin 20 → Fin 200 → EReal} {B : Fin 8 → Fin 20 → Fin 200 → Fin 4 → EReal} {s : Fin 8 → Fin 20 → Fin 200 → Bool} {V : RV}

theorem noti_ofBool (a : Bool) : ~~~(BitVec.ofBool a) = BitVec.ofBool (!a) := by cases a <;> rfl

theorem kept_word (h : RefCands v B s V) :
    andi (noti (V main_v97_4)) (cmpf (F := Ideal) (φ := .f32) .ogt (V main_values) (broadcastInDim S8x20x200 ![] bcast_S_S8x20x200 (constant S_ .f32 0x3C23D70A#32)))
      = fun j : S8x20x200.Idx => BitVec.ofBool (kept v s (j 0) (j 1) (j 2)) := by
  rw [h.sup, h.val]
  funext j
  change IntOp.andi (~~~(BitVec.ofBool _)) (BitVec.ofBool _) = _
  rw [noti_ofBool, andi_ofBool]
  rfl

set_option maxHeartbeats 4000000 in
set_option maxRecDepth 100000 in
/-- The scores merged. -/
theorem ref_scores (h : RefCands v B s V) :
    merged V main_v117 = fun j : S8x4000.Idx => keptScore v s (j 0) (qc (j 1)) (qr (j 1)) := by
  after_reads_simp
  rw [kept_word h, h.val]
  refine (cast_8_20_200_to_8_4000 _ _).trans ?_
  funext j
  change Scalar.select (BitVec.ofBool _) _ (Ideal.ofBits .f32 0x00000000#32) = _
  rw [select_ofBool, Ideal.ofBits_zero_f32]
  rfl

set_option maxHeartbeats 4000000 in
set_option maxRecDepth 100000 in
/-- The boxes merged. -/
theorem ref_boxes (h : RefCands v B s V) :
    merged V main_v118 = fun j : S8x4000x4.Idx => B (j 0) (qc (j 1)) (qr (j 1)) (j 2) * fl (kept v s (j 0) (qc (j 1)) (qr (j 1))) := by
  after_reads_simp
  rw [kept_word h, h.box]
  refine (cast_8_20_200_4_to_8_4000_4 _ _).trans ?_
  funext j
  change _ * Scalar.select (BitVec.ofBool _) (Ideal.ofBits .f32 0x3F800000#32) (Ideal.ofBits .f32 0x00000000#32) = _
  rw [select_ofBool, Ideal.ofBits_zero_f32, Ideal.ofBits_one_f32]
  rfl

open Classical in
set_option maxHeartbeats 4000000 in
set_option maxRecDepth 100000 in
/-- The labels merged. -/
theorem ref_labels (h : RefCands v B s V) :
    merged V main_v119 = fun j : S8x4000.Idx =>
      if 0 < keptScore v s (j 0) (qc (j 1)) (qr (j 1)) then BitVec.ofNat 32 ((j 1).val / 200 + 1) else 0#32 := by
  after_reads_simp
  rw [kept_word h, h.val]
  refine (cast_8_20_200_to_8_4000 _ _).trans ?_
  funext j
  change IntOp.muli (IntOp.addi 1#32 (BitVec.ofNat 32 ((j 1).val / 200))) (BitVec.zeroExtend 32 (BitVec.ofBool (decide (Ideal.ofBits .f32 0x00000000#32
    < Scalar.select (BitVec.ofBool (kept v s (j 0) (qc (j 1)) (qr (j 1)))) (v (j 0) (qc (j 1)) (qr (j 1))) (Ideal.ofBits .f32 0x00000000#32))))) = _
  rw [select_ofBool, Ideal.ofBits_zero_f32]
  change IntOp.muli _ (BitVec.zeroExtend 32 (BitVec.ofBool (decide (0 < keptScore v s (j 0) (qc (j 1)) (qr (j 1)))))) = _
  have he : IntOp.addi 1#32 (BitVec.ofNat 32 ((j 1).val / 200)) = BitVec.ofNat 32 ((j 1).val / 200 + 1) := by
    change 1#32 + _ = _
    rw [BitVec.add_comm, ← BitVec.ofNat_add]
  rw [he]
  by_cases hp : 0 < keptScore v s (j 0) (qc (j 1)) (qr (j 1))
  · rw [if_pos hp, decide_eq_true hp]; exact BitVec.mul_one _
  · rw [if_neg hp, decide_eq_false hp]; exact BitVec.mul_zero

/-- The place that the sort puts at `r`. -/
def topOf (v : Fin 8 → Fin 20 → Fin 200 → EReal) (s : Fin 8 → Fin 20 → Fin 200 → Bool) (b : Fin 8) (r : Fin 200) : Fin 4000 :=
  ord (fun q => keptScore v s b (qc q) (qr q)) (Fin.castLE (by omega) r)

set_option maxHeartbeats 4000000 in
set_option maxRecDepth 100000 in
/-- The scores returned. -/
theorem ref_top (h : RefCands v B s V) :
    merged V main_values_16 = fun j : S8x200.Idx => keptScore v s (j 0) (qc (topOf v s (j 0) (j 1))) (qr (topOf v s (j 0) (j 1))) := by
  have e : merged V main_values_16
      = (Host.topK S8x200 1 (FloatOps.cmpfTotal (F := Ideal) (φ := .f32) .gt) (merged V main_v117) sliceFits_S8x4000_S8x200).1 := by
    after_reads_simp
  rw [e, ref_scores h]
  exact topK2_values (fun b q => keptScore v s b (qc q) (qr q)) (by omega) _

set_option maxHeartbeats 4000000 in
set_option maxRecDepth 100000 in
/-- Their places. -/
theorem ref_place (h : RefCands v B s V) :
    merged V main_indices_17 = fun j : S8x200.Idx => BitVec.ofNat 32 (topOf v s (j 0) (j 1)).val := by
  have e : merged V main_indices_17
      = (Host.topK S8x200 1 (FloatOps.cmpfTotal (F := Ideal) (φ := .f32) .gt) (merged V main_v117) sliceFits_S8x4000_S8x200).2 := by
    after_reads_simp
  rw [e, ref_scores h]
  exact topK2_indices (fun b q => keptScore v s b (qc q) (qr q)) (by omega) _

set_option maxHeartbeats 4000000 in
set_option maxRecDepth 100000 in
/-- Their places, with a unit axis. -/
theorem ref_place1 (h : RefCands v B s V) :
    merged V main_v120 = fun j : S8x200x1.Idx => BitVec.ofNat 32 (topOf v s (j 0) (j 1)).val := by
  have e : merged V main_v120 = broadcastInDim S8x200x1 ![0, 1] bcast_S8x200_S8x200x1_0_1 (merged V main_indices_17) := by
    after_reads_simp
  rw [e, ref_place h]
  funext j
  rfl

set_option maxHeartbeats 4000000 in
set_option maxRecDepth 100000 in
/-- Boxes read at given places. -/
theorem ref_take_boxes (V : RV) (x : Fin 8 → Fin 4000 → Fin 4 → EReal) (n : Fin 8 → Fin 200 → Fin 4000)
    (h : V main_v118 = fun j : S8x4000x4.Idx => x (j 0) (j 1) (j 2))
    (hn : V main_v120 = fun j : S8x200x1.Idx => BitVec.ofNat 32 (n (j 0) (j 1)).val) :
    after hostOps0_8 V main_v121 = fun j : S8x200x4.Idx => x (j 0) (n (j 0) (j 1)) (j 2) := by
  after_reads_simp
  rw [h, hn]
  erw [wrap_words (s := S8x200x1) (fun j => (n (j 0) (j 1)).val) (fun j => by have := (n (j 0) (j 1)).isLt; omega)
    (broadcastInDim S8x200x1 ![] bcast_S_S8x200x1 (constantI S_ 32 0#32))
    (addi (fun j => BitVec.ofNat 32 (n (j 0) (j 1)).val) (broadcastInDim S8x200x1 ![] bcast_S_S8x200x1 (constantI S_ 32 4000#32))) (fun _ => rfl)]
  erw [reduce_ones _ _ _ _ (mask_words (s := S8x200x1) (fun j => (n (j 0) (j 1)).val) 3999 (fun j => by have := (n (j 0) (j 1)).isLt; omega)
    (by omega) _ _ (fun _ => rfl) (fun _ => rfl)) (fun _ => rfl)]
  refine Eq.trans ?_ (gather3 gather_S8x4000x4_S8x200x1_S8x200x4_2_1_0_0_1_2_114_wf x n (by omega))
  funext j
  rfl

set_option maxHeartbeats 4000000 in
set_option maxRecDepth 100000 in
/-- Labels read at given places. -/
theorem ref_take_labels (V : RV) (x : Fin 8 → Fin 4000 → BitVec 32) (n : Fin 8 → Fin 200 → Fin 4000)
    (h : V main_v119 = fun j : S8x4000.Idx => x (j 0) (j 1))
    (hn : V main_indices_17 = fun j : S8x200.Idx => BitVec.ofNat 32 (n (j 0) (j 1)).val) :
    after hostOps0_9 V main_v122 = fun j : S8x200.Idx => x (j 0) (n (j 0) (j 1)) := by
  after_reads_simp
  rw [h, hn]
  erw [wrap_words (s := S8x200) (fun j => (n (j 0) (j 1)).val) (fun j => by have := (n (j 0) (j 1)).isLt; omega)
    (broadcastInDim S8x200 ![] bcast_S_S8x200 (constantI S_ 32 0#32))
    (addi (fun j => BitVec.ofNat 32 (n (j 0) (j 1)).val) (broadcastInDim S8x200 ![] bcast_S_S8x200 (constantI S_ 32 4000#32))) (fun _ => rfl)]
  have hc : (fun i => shapeCast main_call6_v5.ty.shape (fun j : S8x200.Idx => BitVec.ofNat 32 (n (j 0) (j 1)).val) shapeCasts_S8x200_S8x200x1 i)
      = fun j : S8x200x1.Idx => BitVec.ofNat 32 (n (j 0) (j 1)).val := cast_8_200_to_8_200_1 _ _
  erw [hc]
  erw [reduce_ones _ _ _ _ (mask_words (s := S8x200x1) (fun j => (n (j 0) (j 1)).val) 3999 (fun j => by have := (n (j 0) (j 1)).isLt; omega)
    (by omega) _ _ (fun _ => rfl) (fun _ => rfl)) (fun _ => rfl)]
  refine Eq.trans ?_ (gather2 gather_S8x4000_S8x200x1_S8x200_n_1_0_0_1_2_11_wf x n (by omega))
  funext j
  rfl

end Cert.Own
-- ==== Proof.RefRun.lean ====
module

public import proofs.«01_k».proof.Proof.RefIou
public import proofs.«01_k».proof.Proof.RefTake
public import proofs.«01_k».proof.Proof.RefPost
public import proofs.«01_k».proof.Proof.Out
public import Idealize.ShloMosaic.Lib.Quiescent

/-! What the reference computes: its three results at the end of every execution. -/

@[expose] public section

noncomputable section

open Idealize.ShloMosaic Idealize.ShloMosaic.StableHlo Cert.ReferenceIdeal Cert.ReferenceIdeal.Gen Cert.ReferenceIdeal.Value
open Idealize.ShloMosaic.TcCoe Idealize.ShloMosaic.ValueIdx

namespace Cert.Own

variable (m : (ℓ : Loc Cert.ReferenceIdeal.nD Cert.ReferenceIdeal.τ Cert.ReferenceIdeal.sig) → Buf (Elt Ideal) ℓ) (c : Dev Cert.ReferenceIdeal.nD)

/-- The first argument at launch. -/
abbrev rA0 : S8x8732x4.Idx → EReal := launchContents m c main_arg0
/-- The second argument at launch. -/
abbrev rA1 : S8x8732x21.Idx → EReal := launchContents m c main_arg1
/-- The third argument at launch. -/
abbrev rA2 : S8732x4.Idx → EReal := launchContents m c main_arg2

/-- The contents before the loop, stretch by stretch. -/
theorem ref_entry : entryContents preI m c = after hostOps0_2 (after hostOps0_1 (after hostOps0 (launchContents m c))) := by
  simp only [entryContents, afterL_cons, afterL_nil]

/-- The contents at the end, stretch by stretch. -/
theorem ref_final : finalContents condOps preI bodyI postI 200 m c
    = after hostOps0_9 (after hostOps0_8 (merged (after condOps (atK m 200 c)))) := by
  simp only [finalContents, afterL_cons, afterL_nil]

/-- A buffer no stretch before the loop writes. -/
theorem ref_entry_of {r : Ref Cert.ReferenceIdeal.sig .tc} (h0 : r ∉ hostOps0_W) (h1 : r ∉ hostOps0_1_W) (h2 : r ∉ hostOps0_2_W) :
    entryContents preI m c r = launchContents m c r := by
  rw [ref_entry, after_of_writes_sub hostOps0_2 _ hostOps0_2_writes h2, after_of_writes_sub hostOps0_1 _ hostOps0_1_writes h1,
    after_of_writes_sub hostOps0 _ hostOps0_writes h0]

set_option maxHeartbeats 4000000 in
set_option maxRecDepth 100000 in
theorem ref_before_box : entryContents preI m c main_v41
    = fun j : S8x20x200x4.Idx => cbox (offOf (rA0 m c) (j 0)) (clsOf (rA1 m c) (j 0)) (pbOf (rA2 m c)) (j 1) (j 2) (j 3) := by
  have e : entryContents preI m c main_v41 = after hostOps0_1 (after hostOps0 (launchContents m c)) main_v41 := by
    rw [ref_entry, after_of_writes_sub hostOps0_2 _ hostOps0_2_writes (by decide)]
  rw [e]
  refine (ref_take _ (fun b n d => box (offOf (rA0 m c) b n) (pbOf (rA2 m c) n) d) (fun b k r => cidx (clsOf (rA1 m c) b) k r)
    (ref_box _ (offOf (rA0 m c)) (pbOf (rA2 m c)) ?_ ?_) (ref_indices _ (clsOf (rA1 m c)) ?_)).trans rfl
  · funext j; exact congrArg (rA0 m c) (eq_ix3 j)
  · funext j; exact congrArg (rA2 m c) (eq_ix2 j)
  · funext j; exact congrArg (rA1 m c) (eq_ix3 j)

set_option maxHeartbeats 4000000 in
set_option maxRecDepth 100000 in
theorem ref_before_val : entryContents preI m c main_values
    = fun j : S8x20x200.Idx => cval (clsOf (rA1 m c) (j 0)) (j 1) (j 2) := by
  have e : entryContents preI m c main_values = after hostOps0 (launchContents m c) main_values := by
    rw [ref_entry, after_of_writes_sub hostOps0_2 _ hostOps0_2_writes (by decide), after_of_writes_sub hostOps0_1 _ hostOps0_1_writes (by decide)]
  rw [e]
  refine ref_values _ (clsOf (rA1 m c)) ?_
  funext j; exact congrArg (rA1 m c) (eq_ix3 j)

/-- The overlaps before the loop. -/
def refG (b : Fin 8) (k : Fin 20) (i l : Fin 200) : EReal :=
  iou (cbox (offOf (rA0 m c) b) (clsOf (rA1 m c) b) (pbOf (rA2 m c)) k i) (cbox (offOf (rA0 m c) b) (clsOf (rA1 m c) b) (pbOf (rA2 m c)) k l)

set_option maxHeartbeats 4000000 in
set_option maxRecDepth 100000 in
theorem ref_start : RefState (refG m c) 0 (entryContents preI m c) := by
  have hb : after hostOps0_1 (after hostOps0 (launchContents m c)) main_v41
      = fun j : S8x20x200x4.Idx => cbox (offOf (rA0 m c) (j 0)) (clsOf (rA1 m c) (j 0)) (pbOf (rA2 m c)) (j 1) (j 2) (j 3) := by
    rw [← ref_before_box m c, ref_entry, after_of_writes_sub hostOps0_2 _ hostOps0_2_writes (by decide)]
  generalize hV : after hostOps0_1 (after hostOps0 (launchContents m c)) = V at hb
  have hE : entryContents preI m c = after hostOps0_2 V := by rw [ref_entry, hV]
  rw [hE]
  refine ⟨ref_iou V (fun b k r => cbox (offOf (rA0 m c) b) (clsOf (rA1 m c) b) (pbOf (rA2 m c)) k r) hb, ?_, ?_, ?_⟩
  · after_reads_simp
    rfl
  · after_reads_simp
    rfl
  · after_reads_simp
    rfl

set_option maxHeartbeats 4000000 in
set_option maxRecDepth 100000 in
theorem body_values (V : RV) : afterL bodyI V main_values = val5 V main_values := by
  simp only [bodyI, afterL_cons, afterL_nil, trip_windows]
  after_reads_simp

set_option maxHeartbeats 4000000 in
set_option maxRecDepth 100000 in
theorem body_v41 (V : RV) : afterL bodyI V main_v41 = val5 V main_v41 := by
  simp only [bodyI, afterL_cons, afterL_nil, trip_windows]
  after_reads_simp

set_option maxHeartbeats 4000000 in
set_option maxRecDepth 100000 in
theorem body_args (V : RV) : afterL bodyI V main_arg0 = val5 V main_arg0 ∧ afterL bodyI V main_arg1 = val5 V main_arg1
    ∧ afterL bodyI V main_arg2 = val5 V main_arg2 := by
  refine ⟨?_, ?_, ?_⟩
  · simp only [bodyI, afterL_cons, afterL_nil, trip_windows]
    after_reads_simp
  · simp only [bodyI, afterL_cons, afterL_nil, trip_windows]
    after_reads_simp
  · simp only [bodyI, afterL_cons, afterL_nil, trip_windows]
    after_reads_simp

/-- The suppression after the loop. -/
def refSup (b : Fin 8) (k : Fin 20) (r : Fin 200) : Bool :=
  supAfter (overlap (cbox (offOf (rA0 m c) b) (clsOf (rA1 m c) b) (pbOf (rA2 m c)) k)) 200 r

/-- The state after the loop. -/
theorem ref_cands : RefCands (fun b k r => cval (clsOf (rA1 m c) b) k r)
    (fun b k r => cbox (offOf (rA0 m c) b) (clsOf (rA1 m c) b) (pbOf (rA2 m c)) k r) (refSup m c)
    (after condOps (atK m 200 c)) := by
  refine ⟨?_, ?_, ?_⟩
  · refine (after_of_writes_sub condOps _ condOps_writes (by decide)).trans ?_
    rw [ref_keep m c main_values (by decide) (by decide) (by decide) (by decide) (by decide) body_values (by decide) 200]
    exact ref_before_val m c
  · refine (after_of_writes_sub condOps _ condOps_writes (by decide)).trans ?_
    rw [ref_keep m c main_v41 (by decide) (by decide) (by decide) (by decide) (by decide) body_v41 (by decide) 200]
    exact ref_before_box m c
  · refine (after_of_writes_sub condOps _ condOps_writes (by decide)).trans ?_
    refine (atK_agree m c 200 main_v97_4 (by decide)).trans ?_
    exact ((ref_start m c).iter 200 (by omega)).sup

abbrev refFinal : RV := finalContents condOps preI bodyI postI 200 m c

set_option maxHeartbeats 4000000 in
set_option maxRecDepth 100000 in
theorem ref_end_scores (Y : RV) : after hostOps0_9 (after hostOps0_8 Y) main_values_16 = Y main_values_16 := by
  after_reads_simp

set_option maxHeartbeats 4000000 in
set_option maxRecDepth 100000 in
theorem ref_end_box (Y : RV) : after hostOps0_9 Y main_v121 = Y main_v121 := by
  after_reads_simp

set_option maxHeartbeats 4000000 in
set_option maxRecDepth 100000 in
theorem ref_end_args (X : RV) : after hostOps0_9 (after hostOps0_8 (merged X)) main_arg0 = X main_arg0
    ∧ after hostOps0_9 (after hostOps0_8 (merged X)) main_arg1 = X main_arg1
    ∧ after hostOps0_9 (after hostOps0_8 (merged X)) main_arg2 = X main_arg2 := by
  refine ⟨?_, ?_, ?_⟩
  · after_reads_simp
  · after_reads_simp
  · after_reads_simp

/-- The kept candidates are those of the plain statement. -/
theorem kept_eq (b : Fin 8) (k : Fin 20) (r : Fin 200) : kept (fun b k r => cval (clsOf (rA1 m c) b) k r) (refSup m c) b k r
    = keep (offOf (rA0 m c) b) (clsOf (rA1 m c) b) (pbOf (rA2 m c)) k r := rfl

/-- The merged scores are those of the plain statement. -/
theorem keptScore_eq (b : Fin 8) (q : Fin 4000) : keptScore (fun b k r => cval (clsOf (rA1 m c) b) k r) (refSup m c) b (qc q) (qr q)
    = flat (offOf (rA0 m c) b) (clsOf (rA1 m c) b) (pbOf (rA2 m c)) q := by
  unfold keptScore flat kscore
  rw [kept_eq]

/-- The order of the merged scores is that of the plain statement. -/
theorem topOf_eq (b : Fin 8) (r : Fin 200) : topOf (fun b k r => cval (clsOf (rA1 m c) b) k r) (refSup m c) b r
    = top (offOf (rA0 m c) b) (clsOf (rA1 m c) b) (pbOf (rA2 m c)) r := by
  unfold topOf top
  rw [show (fun q => keptScore (fun b k r => cval (clsOf (rA1 m c) b) k r) (refSup m c) b (qc q) (qr q))
    = flat (offOf (rA0 m c) b) (clsOf (rA1 m c) b) (pbOf (rA2 m c)) from funext fun q => keptScore_eq m c b q]

/-- The boxes returned. -/
theorem ref_out_box : refFinal m c main_v121 = outBox (rA0 m c) (rA1 m c) (rA2 m c) := by
  rw [refFinal, ref_final, ref_end_box]
  refine (ref_take_boxes _ (fun b q d => cbox (offOf (rA0 m c) b) (clsOf (rA1 m c) b) (pbOf (rA2 m c)) (qc q) (qr q) d
    * fl (kept (fun b k r => cval (clsOf (rA1 m c) b) k r) (refSup m c) b (qc q) (qr q))) _ (ref_boxes (ref_cands m c)) (ref_place1 (ref_cands m c))).trans ?_
  have h : ∀ (b : Fin 8) (r : Fin 200) (d : Fin 4), cbox (offOf (rA0 m c) b) (clsOf (rA1 m c) b) (pbOf (rA2 m c)) (qc (topOf (fun b k r => cval (clsOf (rA1 m c) b) k r) (refSup m c) b r)) (qr (topOf (fun b k r => cval (clsOf (rA1 m c) b) k r) (refSup m c) b r)) d
      * fl (kept (fun b k r => cval (clsOf (rA1 m c) b) k r) (refSup m c) b (qc (topOf (fun b k r => cval (clsOf (rA1 m c) b) k r) (refSup m c) b r)) (qr (topOf (fun b k r => cval (clsOf (rA1 m c) b) k r) (refSup m c) b r)))
      = resBox (offOf (rA0 m c) b) (clsOf (rA1 m c) b) (pbOf (rA2 m c)) r d := by
    intro b r d
    rw [topOf_eq, kept_eq]
    rfl
  exact funext fun j => h (j 0) (j 1) (j 2)

/-- The scores returned. -/
theorem ref_out_score : refFinal m c main_values_16 = outScore (rA0 m c) (rA1 m c) (rA2 m c) := by
  rw [refFinal, ref_final, ref_end_scores]
  refine (ref_top (ref_cands m c)).trans ?_
  have h : ∀ (b : Fin 8) (r : Fin 200), keptScore (fun b k r => cval (clsOf (rA1 m c) b) k r) (refSup m c) b
      (qc (topOf (fun b k r => cval (clsOf (rA1 m c) b) k r) (refSup m c) b r)) (qr (topOf (fun b k r => cval (clsOf (rA1 m c) b) k r) (refSup m c) b r))
      = resScore (offOf (rA0 m c) b) (clsOf (rA1 m c) b) (pbOf (rA2 m c)) r := by
    intro b r
    rw [keptScore_eq, topOf_eq]
    rfl
  exact funext fun j => h (j 0) (j 1)

set_option maxHeartbeats 4000000 in
set_option maxRecDepth 100000 in
theorem ref_keep_labels (X : RV) : after hostOps0_8 X main_v119 = X main_v119 ∧ after hostOps0_8 X main_indices_17 = X main_indices_17 := by
  refine ⟨?_, ?_⟩
  · after_reads_simp
  · after_reads_simp

open Classical in
/-- The labels returned. -/
theorem ref_out_label : refFinal m c main_v122 = outLabel (rA0 m c) (rA1 m c) (rA2 m c) := by
  rw [refFinal, ref_final]
  refine (ref_take_labels _ (fun b q => if 0 < keptScore (fun b k r => cval (clsOf (rA1 m c) b) k r) (refSup m c) b (qc q) (qr q)
      then BitVec.ofNat 32 (q.val / 200 + 1) else 0#32) (topOf (fun b k r => cval (clsOf (rA1 m c) b) k r) (refSup m c)) ?_ ?_).trans ?_
  · exact (ref_keep_labels _).1.trans (ref_labels (ref_cands m c))
  · exact (ref_keep_labels _).2.trans (ref_place (ref_cands m c))
  · have h : ∀ (b : Fin 8) (r : Fin 200), (if 0 < keptScore (fun b k r => cval (clsOf (rA1 m c) b) k r) (refSup m c) b
        (qc (topOf (fun b k r => cval (clsOf (rA1 m c) b) k r) (refSup m c) b r)) (qr (topOf (fun b k r => cval (clsOf (rA1 m c) b) k r) (refSup m c) b r))
        then BitVec.ofNat 32 ((topOf (fun b k r => cval (clsOf (rA1 m c) b) k r) (refSup m c) b r).val / 200 + 1) else 0#32)
        = resLabel (offOf (rA0 m c) b) (clsOf (rA1 m c) b) (pbOf (rA2 m c)) r := by
      intro b r
      rw [keptScore_eq, topOf_eq]
      rfl
    exact funext fun j => h (j 0) (j 1)

/-- The arguments keep their contents. -/
theorem ref_args : refFinal m c main_arg0 = rA0 m c ∧ refFinal m c main_arg1 = rA1 m c ∧ refFinal m c main_arg2 = rA2 m c := by
  rw [refFinal, ref_final]
  refine ⟨?_, ?_, ?_⟩
  · rw [(ref_end_args _).1, after_of_writes_sub condOps _ condOps_writes (by decide),
      ref_keep m c main_arg0 (by decide) (by decide) (by decide) (by decide) (by decide) (fun V => (body_args V).1) (by decide) 200]
    exact ref_entry_of m c (by decide) (by decide) (by decide)
  · rw [(ref_end_args _).2.1, after_of_writes_sub condOps _ condOps_writes (by decide),
      ref_keep m c main_arg1 (by decide) (by decide) (by decide) (by decide) (by decide) (fun V => (body_args V).2.1) (by decide) 200]
    exact ref_entry_of m c (by decide) (by decide) (by decide)
  · rw [(ref_end_args _).2.2, after_of_writes_sub condOps _ condOps_writes (by decide),
      ref_keep m c main_arg2 (by decide) (by decide) (by decide) (by decide) (by decide) (fun V => (body_args V).2.2) (by decide) 200]
    exact ref_entry_of m c (by decide) (by decide) (by decide)

/-- Every execution of the reference ends with the three results of the plain statement, its arguments unchanged. -/
theorem reference_run (ρ) : θ_run (defs (F := Ideal)) (onTc (τ := Cert.ReferenceIdeal.τ) (main (F := Ideal))) ⟨m, fun _ => 0, ρ⟩ (fun r => (∀ c : Dev Cert.ReferenceIdeal.nD,
      r.2.mem ((c.tc : Thread Cert.ReferenceIdeal.nD Cert.ReferenceIdeal.τ).loc main_v121) = outBox (rA0 m c) (rA1 m c) (rA2 m c)
      ∧ r.2.mem ((c.tc : Thread Cert.ReferenceIdeal.nD Cert.ReferenceIdeal.τ).loc main_values_16) = outScore (rA0 m c) (rA1 m c) (rA2 m c)
      ∧ r.2.mem ((c.tc : Thread Cert.ReferenceIdeal.nD Cert.ReferenceIdeal.τ).loc main_v122) = outLabel (rA0 m c) (rA1 m c) (rA2 m c)
      ∧ r.2.mem ((c.tc : Thread Cert.ReferenceIdeal.nD Cert.ReferenceIdeal.τ).loc main_arg0) = m ((c.tc : Thread Cert.ReferenceIdeal.nD Cert.ReferenceIdeal.τ).loc main_arg0)
      ∧ r.2.mem ((c.tc : Thread Cert.ReferenceIdeal.nD Cert.ReferenceIdeal.τ).loc main_arg1) = m ((c.tc : Thread Cert.ReferenceIdeal.nD Cert.ReferenceIdeal.τ).loc main_arg1)
      ∧ r.2.mem ((c.tc : Thread Cert.ReferenceIdeal.nD Cert.ReferenceIdeal.τ).loc main_arg2) = m ((c.tc : Thread Cert.ReferenceIdeal.nD Cert.ReferenceIdeal.τ).loc main_arg2)) ∧ r.2.sem = fun _ => 0) := by
  refine (θ_run defs _ _).mono (fun r h => ⟨fun c => ⟨?_, ?_, ?_, ?_, ?_, ?_⟩, sem_eq_zero_of_no_sems (by decide) r.2⟩) (run_fold m ρ)
  · exact (h c main_v121 rfl).trans (ref_out_box m c)
  · exact (h c main_values_16 rfl).trans (ref_out_score m c)
  · exact (h c main_v122 rfl).trans (ref_out_label m c)
  · exact (h c main_arg0 rfl).trans (ref_args m c).1
  · exact (h c main_arg1 rfl).trans (ref_args m c).2.1
  · exact (h c main_arg2 rfl).trans (ref_args m c).2.2

end Cert.Own
-- ==== Proof.lean ====
/- The claims of this certificate, assembled: the runs of the two programs (Proof/KerRun.lean, Proof/RefRun.lean) and the frames. -/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Gen.Reference
public import proofs.«01_k».proof.Proof.RefFrame
public import proofs.«01_k».proof.Proof.KerRun
public import proofs.«01_k».proof.Proof.RefRun

@[expose] public section

noncomputable section

namespace Cert.Proof

open Idealize.ShloMosaic Idealize.SL.Sem

/-- The kernel over extended reals terminates, leaves its arguments and brings every counter back to zero. -/
theorem kernel_frame : Cert.quiescent_KernelIdeal (hKernelIdeal := Cert.KernelIdeal.Gen.facts) := fun m ρ _ => Cert.KernelIdeal.Gen.frame m ρ

/-- The reference terminates, leaves its arguments and brings every counter back to zero. -/
theorem reference_frame : Cert.quiescent_ReferenceIdeal (hReferenceIdeal := Cert.ReferenceIdeal.Gen.facts) := fun m ρ _ =>
  (θ_run _ _ _).mono (fun _ h => ⟨fun c => (h.1 c).2.2.2, h.2⟩) (Cert.Own.reference_run m ρ)

/-- From the same arguments the kernel and the reference return the same boxes, scores and labels. -/
theorem same_results : Cert.algebraic_KernelIdeal_ReferenceIdeal (hKernelIdeal := Cert.KernelIdeal.Gen.facts)
    (hReferenceIdeal := Cert.ReferenceIdeal.Gen.facts) := by
  intro m g m' g' _ hargs
  have e0 : ∀ c, Cert.Own.rA0 m' c = Cert.Own.kA0 m c := fun c => (hargs c).1
  have e1 : ∀ c, Cert.Own.rA1 m' c = Cert.Own.kA1 m c := fun c => (hargs c).2.1
  have e2 : ∀ c, Cert.Own.rA2 m' c = Cert.Own.kA2 m c := fun c => (hargs c).2.2
  refine ⟨fun c => Cert.Own.outBox (Cert.Own.kA0 m c) (Cert.Own.kA1 m c) (Cert.Own.kA2 m c),
    fun c => Cert.Own.outScore (Cert.Own.kA0 m c) (Cert.Own.kA1 m c) (Cert.Own.kA2 m c),
    fun c => Cert.Own.outLabel (Cert.Own.kA0 m c) (Cert.Own.kA1 m c) (Cert.Own.kA2 m c), ?_, ?_⟩
  · exact (θ_run _ _ _).mono (fun _ h => h.1) (Cert.Own.kernel_run m g)
  · refine (θ_run _ _ _).mono (fun r h c => ?_) (Cert.Own.reference_run m' g')
    obtain ⟨h0, h1, h2, ha⟩ := h.1 c
    rw [e0, e1, e2] at h0 h1 h2
    exact ⟨h0, h1, h2, ha⟩

/-- All the claims. -/
theorem claim : Cert.Claim := ⟨Cert.Kernel.Gen.facts, Cert.KernelIdeal.Gen.facts, Cert.Reference.Gen.facts, Cert.ReferenceIdeal.Gen.facts,
  fun m ρ _ => Cert.Kernel.Gen.frame m ρ, kernel_frame, fun m ρ _ => Cert.Own.reference_float m ρ, reference_frame, trivial, trivial, same_results⟩

end Cert.Proof

end
